-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S512x128 : Shape := ⟨2, ![512, 128]⟩
abbrev S256x512 : Shape := ⟨2, ![256, 512]⟩
abbrev S4x64x512 : Shape := ⟨3, ![4, 64, 512]⟩
abbrev S1x64x512 : Shape := ⟨3, ![1, 64, 512]⟩
abbrev S5 : Shape := ⟨1, ![5]⟩
abbrev S_ : Shape := ⟨0, ![]⟩
abbrev S4 : Shape := ⟨1, ![4]⟩
abbrev S1 : Shape := ⟨1, ![1]⟩
abbrev S256x128 : Shape := ⟨2, ![256, 128]⟩
abbrev S128x64 : Shape := ⟨2, ![128, 64]⟩
abbrev S512x64 : Shape := ⟨2, ![512, 64]⟩
abbrev S512 : Shape := ⟨1, ![512]⟩
abbrev S512x1 : Shape := ⟨2, ![512, 1]⟩
abbrev S128x512 : Shape := ⟨2, ![128, 512]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x128, .f32⟩
  | .local _ .vmem, ⟨4, _⟩ => ⟨S512x128, .f32⟩
  | .local _ .vmem, ⟨5, _⟩ => ⟨S256x512, .f32⟩
  | .local _ .vmem, ⟨6, _⟩ => ⟨S4x64x512, .f32⟩
  | .local _ .vmem, ⟨7, _⟩ => ⟨S1x64x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_4 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.muli v2 c2_i32
  let c64_i32 : BitVec 32 := 64#32
  let v4 : BitVec 32 := Scalar.muli v3 c64_i32
  ![0, v4.toNat]
def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v20 : BitVec 32 := Scalar.addi v2 c1_i32_7
  let c4_i32_8 : BitVec 32 := 4#32
  let v21 : BitVec 32 := Scalar.remsi v20 c4_i32_8
  let c1_i32_10 : BitVec 32 := 1#32
  let v22 : BitVec 32 := Scalar.muli v21 c1_i32_10
  let v23 : BitVec 32 := Scalar.addi c0_i32_11 v22
  v23.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v24 : BitVec 32 := Scalar.addi v2 c2_i32_12
  let c4_i32_13 : BitVec 32 := 4#32
  let v25 : BitVec 32 := Scalar.remsi v24 c4_i32_13
  let c1_i32_15 : BitVec 32 := 1#32
  let v26 : BitVec 32 := Scalar.muli v25 c1_i32_15
  let v27 : BitVec 32 := Scalar.addi c0_i32_16 v26
  v27.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_17 : BitVec 32 := 3#32
  let v28 : BitVec 32 := Scalar.addi v2 c3_i32_17
  let c4_i32_18 : BitVec 32 := 4#32
  let v29 : BitVec 32 := Scalar.remsi v28 c4_i32_18
  let c1_i32_20 : BitVec 32 := 1#32
  let v30 : BitVec 32 := Scalar.muli v29 c1_i32_20
  let v31 : BitVec 32 := Scalar.addi c0_i32_21 v30
  v31.toNat
def k0_off2 (d0 : Dev nD) (c1_i32_65 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v156 : BitVec 32 := Scalar.addi v2 c1_i32_65
  let c4_i32_66 : BitVec 32 := 4#32
  let v157 : BitVec 32 := Scalar.remsi v156 c4_i32_66
  let c64_i32_67 : BitVec 32 := 64#32
  let v158 : BitVec 32 := Scalar.muli v157 c64_i32_67
  let c0_i32_75 : BitVec 32 := 0#32
  ![v158.toNat, 0]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_65 : BitVec 32 := 1#32
  let v156 : BitVec 32 := Scalar.addi v2 c1_i32_65
  let c4_i32_66 : BitVec 32 := 4#32
  let v157 : BitVec 32 := Scalar.remsi v156 c4_i32_66
  let c1_i32_71 : BitVec 32 := 1#32
  let v159 : BitVec 32 := Scalar.muli v157 c1_i32_71
  let v160 : BitVec 32 := Scalar.addi c0_i32_72 v159
  v160.toNat
def k0_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v168 : BitVec 32 := Scalar.addi v2 c2_i32_76
  let c4_i32_77 : BitVec 32 := 4#32
  let v169 : BitVec 32 := Scalar.remsi v168 c4_i32_77
  let c1_i32_82 : BitVec 32 := 1#32
  let v171 : BitVec 32 := Scalar.muli v169 c1_i32_82
  let v172 : BitVec 32 := Scalar.addi c0_i32_83 v171
  v172.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v180 : BitVec 32 := Scalar.addi v2 c3_i32_87
  let c4_i32_88 : BitVec 32 := 4#32
  let v181 : BitVec 32 := Scalar.remsi v180 c4_i32_88
  let c1_i32_93 : BitVec 32 := 1#32
  let v183 : BitVec 32 := Scalar.muli v181 c1_i32_93
  let v184 : BitVec 32 := Scalar.addi c0_i32_94 v183
  v184.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_98 : BitVec 32 := 64#32
  let v192 : BitVec 32 := Scalar.muli v2 c64_i32_98
  let v193 : Index := Scalar.indexCast v192
  let c0_99 : Index := 0#32
  ![v193.toNat, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_139 : BitVec 32 := 2#32
  let v234 : BitVec 32 := Scalar.divsi v2 c2_i32_139
  let c2_i32_140 : BitVec 32 := 2#32
  let v235 : BitVec 32 := Scalar.remsi v2 c2_i32_140
  let c64_i32_141 : BitVec 32 := 64#32
  let v236 : BitVec 32 := Scalar.muli v235 c64_i32_141
  let c0_i32_148 : BitVec 32 := 0#32
  ![v234.toNat, v236.toNat, 0]
def k0_dev7 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_142 : BitVec 32 := 1#32
  let v237 : BitVec 32 := Scalar.addi v2 c1_i32_142
  let c4_i32_143 : BitVec 32 := 4#32
  let v238 : BitVec 32 := Scalar.remsi v237 c4_i32_143
  let c1_i32_146 : BitVec 32 := 1#32
  let v239 : BitVec 32 := Scalar.muli v238 c1_i32_146
  let v240 : BitVec 32 := Scalar.addi c0_i32_147 v239
  v240.toNat
def k0_dev8 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_149 : BitVec 32 := 2#32
  let v246 : BitVec 32 := Scalar.addi v2 c2_i32_149
  let c4_i32_150 : BitVec 32 := 4#32
  let v247 : BitVec 32 := Scalar.remsi v246 c4_i32_150
  let c1_i32_153 : BitVec 32 := 1#32
  let v248 : BitVec 32 := Scalar.muli v247 c1_i32_153
  let v249 : BitVec 32 := Scalar.addi c0_i32_154 v248
  v249.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_156 : BitVec 32 := 3#32
  let v255 : BitVec 32 := Scalar.addi v2 c3_i32_156
  let c4_i32_157 : BitVec 32 := 4#32
  let v256 : BitVec 32 := Scalar.remsi v255 c4_i32_157
  let c1_i32_160 : BitVec 32 := 1#32
  let v257 : BitVec 32 := Scalar.muli v256 c1_i32_160
  let v258 : BitVec 32 := Scalar.addi c0_i32_161 v257
  v258.toNat
-- ==== ReferenceIdeal.lean ====
abbrev S2x128x512 : Shape := ⟨3, ![2, 128, 512]⟩
abbrev S512x2048 : Shape := ⟨2, ![512, 2048]⟩
abbrev S512x512 : Shape := ⟨2, ![512, 512]⟩
abbrev S2048x512 : Shape := ⟨2, ![2048, 512]⟩
abbrev S2x128x2048 : Shape := ⟨3, ![2, 128, 2048]⟩
abbrev S2x128x32x64 : Shape := ⟨4, ![2, 128, 32, 64]⟩
abbrev S2x128x8x64 : Shape := ⟨4, ![2, 128, 8, 64]⟩
abbrev S2x128x8x4x64 : Shape := ⟨5, ![2, 128, 8, 4, 64]⟩
abbrev S_ : Shape := ⟨0, ![]⟩
abbrev S2x32x128x1 : Shape := ⟨4, ![2, 32, 128, 1]⟩
abbrev S2x32x128x128 : Shape := ⟨4, ![2, 32, 128, 128]⟩
abbrev S2x32x128 : Shape := ⟨3, ![2, 32, 128]⟩
abbrev S2x128x32x1 : Shape := ⟨4, ![2, 128, 32, 1]⟩
abbrev S2x32x64x128 : Shape := ⟨4, ![2, 32, 64, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S512x512, .f32⟩
  | .hbm, ⟨3, _⟩ => ⟨S512x512, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S2x128x512, .f32⟩
  | .hbm, ⟨8, _⟩ => ⟨S2x128x8x64, .f32⟩
  | .hbm, ⟨9, _⟩ => ⟨S2x128x512, .f32⟩
  | .hbm, ⟨10, _⟩ => ⟨S2x128x8x64, .f32⟩
  | .hbm, ⟨11, _⟩ => ⟨S2x128x8x4x64, .f32⟩
  | .hbm, ⟨12, _⟩ => ⟨S2x128x32x64, .f32⟩
  | .hbm, ⟨13, _⟩ => ⟨S2x128x8x4x64, .f32⟩
  | .hbm, ⟨14, _⟩ => ⟨S2x128x32x64, .f32⟩
  | .hbm, ⟨15, _⟩ => ⟨S_, .f32⟩
  | .hbm, ⟨16, _⟩ => ⟨S2x128x32x64, .f32⟩
  | .hbm, ⟨17, _⟩ => ⟨S_, .f32⟩
  | .hbm, ⟨18, _⟩ => ⟨S2x32x128x1, .f32⟩
  | .hbm, ⟨19, _⟩ => ⟨S_, .f32⟩
  | .hbm, ⟨20, _⟩ => ⟨S2x32x128x1, .f32⟩
  | .hbm, ⟨21, _⟩ => ⟨S2x32x128x128, .f32⟩
  | .hbm, ⟨22, _⟩ => ⟨S_, .f32⟩
  | .hbm, ⟨23, _⟩ => ⟨S2x32x128x128, .f32⟩
  | .hbm, ⟨24, _⟩ => ⟨S2x32x128x128, .f32⟩
  | .hbm, ⟨25, _⟩ => ⟨S_, .f32⟩
  | .hbm, ⟨26, _⟩ => ⟨S2x32x128, .f32⟩
  | .hbm, ⟨27, _⟩ => ⟨S2x32x128x1, .f32⟩
  | .hbm, ⟨28, _⟩ => ⟨S2x32x128x1, .f32⟩
  | .hbm, ⟨29, _⟩ => ⟨S2x32x128x1, .f32⟩
  | .hbm, ⟨30, _⟩ => ⟨S2x32x128x1, .f32⟩
  | .hbm, ⟨31, _⟩ => ⟨S2x32x128x128, .f32⟩
  | .hbm, ⟨32, _⟩ => ⟨S2x32x128x128, .f32⟩
  | .hbm, ⟨33, _⟩ => ⟨S2x32x128x128, .f32⟩
  | .hbm, ⟨34, _⟩ => ⟨S2x32x128x1, .f32⟩
  | .hbm, ⟨35, _⟩ => ⟨S_, .f32⟩
  | .hbm, ⟨36, _⟩ => ⟨S2x32x128, .f32⟩
  | .hbm, ⟨37, _⟩ => ⟨S2x32x128x1, .f32⟩
  | .hbm, ⟨38, _⟩ => ⟨S2x32x128x1, .f32⟩
  | .hbm, ⟨39, _⟩ => ⟨S2x128x32x1, .f32⟩
  | .hbm, ⟨40, _⟩ => ⟨S2x128x32x64, .f32⟩
  | .hbm, ⟨41, _⟩ => ⟨S2x128x32x64, .f32⟩
  | .hbm, ⟨42, _⟩ => ⟨S2x32x64x128, .f32⟩
  | .hbm, ⟨43, _⟩ => ⟨S2x128x32x64, .f32⟩
  | .hbm, ⟨44, _⟩ => ⟨S2x128x32x64, .f32⟩
  | .hbm, ⟨45, _⟩ => ⟨S2x128x32x1, .f32⟩
  | .hbm, ⟨46, _⟩ => ⟨S2x128x32x64, .f32⟩
  | .hbm, ⟨47, _⟩ => ⟨S2x128x32x64, .f32⟩
  | .hbm, ⟨48, _⟩ => ⟨S2x128x2048, .f32⟩
  | .hbm, ⟨49, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.KernIdeal.Geo.lean ====
/-
# The arrays of the kernel cut into chunks

Each of the four devices works on whole arrays in its own memory and exchanges CHUNKS of 64 rows with its three peers.
This module names the peers, the element sets of the chunks, the views the kernel's copies go through and the contents
every array holds once it is written: one function per array, so that a chunk held by itself and the whole array are
held at the same contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.ValueLayout
public import Idealize.ShloMosaic.Lib.Tactic

@[expose] public section

noncomputable section

namespace Cert.KernelIdealProof

open Cert.KernelIdeal Cert.KernelIdeal.Gen

open Idealize.ShloMosaic
open Idealize.ShloMosaic.TcCoe
open Idealize.ShloMosaic.ValueIdx

variable {F : FTy → Type} [FloatOps F]

/-! ## Peers -/

set_option backward.proofsInPublic true in
/-- The peer `k + 1` places after device `c` on the ring of four. -/
def pl (c : Dev nD) (k : Fin 3) : Dev nD := ⟨(c.val + (k.val + 1)) % 4, Nat.mod_lt _ (by decide)⟩

set_option backward.proofsInPublic true in
/-- The device `s` places before device `d` on the ring of four. -/
def bk (d : Dev nD) (s : Fin 4) : Dev nD := ⟨(d.val + (4 - s.val)) % 4, Nat.mod_lt _ (by decide)⟩

/-- Going `k + 1` places on and then `3 - k` places on is going once around. -/
theorem pl_pl_rev (c : Dev nD) (k : Fin 3) : pl (pl c k) k.rev = c := by revert c k; decide
/-- The same with the two steps swapped. -/
theorem pl_rev_pl (c : Dev nD) (k : Fin 3) : pl (pl c k.rev) k = c := by revert c k; decide
/-- Going `k + 1` places back from the peer `k + 1` places on is staying. -/
theorem bk_pl (c : Dev nD) (k : Fin 3) : bk (pl c k) k.succ = c := by revert c k; decide
/-- No place back is staying. -/
theorem bk_zero (c : Dev nD) : bk c 0 = c := by revert c; decide
/-- A peer is another device. -/
theorem pl_ne (c : Dev nD) (k : Fin 3) : pl c k ≠ c := by revert c k; decide
/-- Two peers of one device are the same only if they are equally far on. -/
theorem pl_inj (c : Dev nD) (j k : Fin 3) (h : pl c j = pl c k) : j = k := by revert c j k; decide
/-- The devices are `c` and its three peers. -/
theorem univ_pl (c : Dev nD) : (Finset.univ : Finset (Dev nD)) = {c, pl c 0, pl c 1, pl c 2} := by revert c; decide

/-- Going `k + 1` places on, as a permutation of the devices. -/
def plE (k : Fin 3) : Dev nD ≃ Dev nD := ⟨fun c => pl c k, fun c => pl c k.rev, fun c => pl_pl_rev c k, fun c => pl_rev_pl c k⟩

/-- The devices the kernel's signals name. -/
theorem dev1_eq (c : Dev nD) : (⟨k0_dev1 c, k0_dev1_lt c⟩ : Dev nD) = pl c 0 := Fin.ext (k0_dev1_eq c)
theorem dev2_eq (c : Dev nD) : (⟨k0_dev2 c, k0_dev2_lt c⟩ : Dev nD) = pl c 1 := Fin.ext (k0_dev2_eq c)
theorem dev3_eq (c : Dev nD) : (⟨k0_dev3 c, k0_dev3_lt c⟩ : Dev nD) = pl c 2 := Fin.ext (k0_dev3_eq c)
/-- The devices the copies of the first exchange name. -/
theorem dev4_eq (c : Dev nD) : (⟨k0_dev4 c, k0_dev4_lt c⟩ : Dev nD) = pl c 0 := Fin.ext (k0_dev4_eq c)
theorem dev5_eq (c : Dev nD) : (⟨k0_dev5 c, k0_dev5_lt c⟩ : Dev nD) = pl c 1 := Fin.ext (k0_dev5_eq c)
theorem dev6_eq (c : Dev nD) : (⟨k0_dev6 c, k0_dev6_lt c⟩ : Dev nD) = pl c 2 := Fin.ext (k0_dev6_eq c)
/-- The devices the copies of the second exchange name. -/
theorem dev7_eq (c : Dev nD) : (⟨k0_dev7 c, k0_dev7_lt c⟩ : Dev nD) = pl c 0 := Fin.ext (k0_dev7_eq c)
theorem dev8_eq (c : Dev nD) : (⟨k0_dev8 c, k0_dev8_lt c⟩ : Dev nD) = pl c 1 := Fin.ext (k0_dev8_eq c)
theorem dev9_eq (c : Dev nD) : (⟨k0_dev9 c, k0_dev9_lt c⟩ : Dev nD) = pl c 2 := Fin.ext (k0_dev9_eq c)

/-! ## Views -/

/-- The kernel's whole arrays. -/
abbrev xA : Memref sig .tc .hbm S2x128x512 .f32 := Memref.whole main_arg0
abbrev wqA : Memref sig .tc .hbm S512x512 .f32 := Memref.whole main_arg1
abbrev woA : Memref sig .tc .hbm S512x512 .f32 := Memref.whole main_arg4
abbrev wkA : Memref sig .tc .hbm S512x512 .f32 := Memref.whole main_arg2
abbrev wvA : Memref sig .tc .hbm S512x512 .f32 := Memref.whole main_arg3
abbrev oA : Memref sig .tc .hbm S2x128x512 .f32 := Memref.whole main_v1
abbrev xM : Memref sig .tc .vmem S2x128x512 .f32 := Memref.whole cc0_scratch0
abbrev wqM : Memref sig .tc .vmem S512x512 .f32 := Memref.whole cc0_scratch1
abbrev woM : Memref sig .tc .vmem S512x512 .f32 := Memref.whole cc0_scratch2
abbrev wkM : Memref sig .tc .vmem S512x128 .f32 := Memref.whole cc0_scratch3
abbrev wvM : Memref sig .tc .vmem S512x128 .f32 := Memref.whole cc0_scratch4
abbrev pM : Memref sig .tc .vmem S256x512 .f32 := Memref.whole cc0_scratch5
abbrev rsM : Memref sig .tc .vmem S4x64x512 .f32 := Memref.whole cc0_scratch6
abbrev redM : Memref sig .tc .vmem S1x64x512 .f32 := Memref.whole cc0_scratch7

/-- Device `c`'s columns of the two key and value weights. -/
abbrev wkC (c : Dev nD) : Memref sig .tc .hbm S512x128 .f32 :=
  wkA.slice (Rect.unit (s := S512x512) (k0_off1 c) S512x128.size (k0_off1_inb c)) (fun _ => rfl)
abbrev wvC (c : Dev nD) : Memref sig .tc .hbm S512x128 .f32 :=
  wvA.slice (Rect.unit (s := S512x512) (k0_off1 c) S512x128.size (k0_off1_inb c)) (fun _ => rfl)

/-- The rows of device `c`'s partial product that its peer `pl c k` sums. -/
abbrev pC (c : Dev nD) (k : Fin 3) : Memref sig .tc .vmem S64x512 .f32 :=
  pM.slice (Rect.unit (s := S256x512) (k0_off2 c (BitVec.ofNat 32 (1 + k.val))) S64x512.size (k0_off2_inb c k)) (fun _ => rfl)

theorem slot_inb (s : Fin 4) : ∀ a, (![s.val, 0, 0] : Fin 3 → ℕ) a + S1x64x512.size a ≤ S4x64x512.size a := by
  revert s; decide

/-- Slot `s` of the landing buffer, and the same slot without its unit axis. -/
abbrev slotV (s : Fin 4) : Memref sig .tc .vmem S1x64x512 .f32 :=
  rsM.slice (Rect.unit (s := S4x64x512) ![s.val, 0, 0] S1x64x512.size (slot_inb s)) (fun _ => rfl)
abbrev slotM (s : Fin 4) : Memref sig .tc .vmem S64x512 .f32 := (slotV s).squeeze S64x512 squeezes_S1x64x512_S64x512

/-- The rows of the result that device `e` sums. -/
abbrev oC (e : Dev nD) : Memref sig .tc .hbm S1x64x512 .f32 :=
  oA.slice (Rect.unit (s := S2x128x512) (k0_off4 e) S1x64x512.size (k0_off4_inb e)) (fun _ => rfl)

/-! ## Element sets -/

/-- Chunk `e` of the partial product's rows: rows `64 e` to `64 e + 63`. -/
def pSet (e : Dev nD) : Finset S256x512.Idx := Finset.univ.filter fun i => (i 0).val / 64 = e.val
/-- Slot `s` of the landing buffer. -/
def rsSet (s : Fin 4) : Finset S4x64x512.Idx := Finset.univ.filter fun i => (i 0).val = s.val
/-- Chunk `e` of the result: the 64 rows that device `e` sums. -/
def oSet (e : Dev nD) : Finset S2x128x512.Idx := Finset.univ.filter fun i => (i 0).val * 2 + (i 1).val / 64 = e.val

theorem pSet_disjoint {e e' : Dev nD} (h : e ≠ e') : Disjoint (pSet e) (pSet e') :=
  Finset.disjoint_left.mpr fun i hi hi' => h (Fin.ext ((Finset.mem_filter.mp hi).2.symm.trans (Finset.mem_filter.mp hi').2))
theorem rsSet_disjoint {s s' : Fin 4} (h : s ≠ s') : Disjoint (rsSet s) (rsSet s') :=
  Finset.disjoint_left.mpr fun i hi hi' => h (Fin.ext ((Finset.mem_filter.mp hi).2.symm.trans (Finset.mem_filter.mp hi').2))
theorem oSet_disjoint {e e' : Dev nD} (h : e ≠ e') : Disjoint (oSet e) (oSet e') :=
  Finset.disjoint_left.mpr fun i hi hi' => h (Fin.ext ((Finset.mem_filter.mp hi).2.symm.trans (Finset.mem_filter.mp hi').2))

/-- The four chunks are all the partial product's rows, -/
theorem pSet_cover : Finset.univ.biUnion pSet = Finset.univ :=
  Finset.eq_univ_of_forall fun i => Finset.mem_biUnion.mpr
    ⟨⟨(i 0).val / 64, by have h : (i 0).val < 256 := (i 0).isLt; show _ < 4; omega⟩, Finset.mem_univ _, Finset.mem_filter.mpr ⟨Finset.mem_univ _, rfl⟩⟩
/-- the four slots all the landing buffer, -/
theorem rsSet_cover : Finset.univ.biUnion rsSet = Finset.univ :=
  Finset.eq_univ_of_forall fun i => Finset.mem_biUnion.mpr ⟨⟨(i 0).val, (i 0).isLt⟩, Finset.mem_univ _, Finset.mem_filter.mpr ⟨Finset.mem_univ _, rfl⟩⟩
/-- and the four chunks all the result. -/
theorem oSet_cover : Finset.univ.biUnion oSet = Finset.univ :=
  Finset.eq_univ_of_forall fun i => Finset.mem_biUnion.mpr
    ⟨⟨(i 0).val * 2 + (i 1).val / 64, by
      have h : (i 0).val < 2 := (i 0).isLt
      have h' : (i 1).val < 128 := (i 1).isLt
      show _ < 4; omega⟩, Finset.mem_univ _, Finset.mem_filter.mpr ⟨Finset.mem_univ _, rfl⟩⟩

/-- A rectangle of 64 rows from row `64 e` on is chunk `e`. -/
theorem rect_pSet (e : Dev nD) (off : Fin 2 → ℕ) (hoff : off = ![64 * e.val, 0]) (inb : ∀ a, off a + S64x512.size a ≤ S256x512.size a) :
    (Rect.unit (s := S256x512) off S64x512.size inb).set = pSet e := by
  subst hoff
  ext i
  have h1 : (i 1).val < 512 := (i 1).isLt
  rw [Rect.mem_set_unit, pSet, Finset.mem_filter]
  constructor
  · intro h
    have h0 := h 0
    refine ⟨Finset.mem_univ _, ?_⟩
    change 64 * e.val ≤ (i 0).val ∧ (i 0).val < 64 * e.val + 64 at h0
    omega
  · rintro ⟨-, h⟩ a
    fin_cases a
    · show 64 * e.val ≤ (i 0).val ∧ (i 0).val < 64 * e.val + 64
      omega
    · show 0 ≤ (i 1).val ∧ (i 1).val < 0 + 512
      omega

/-- A rectangle of one slot is the slot. -/
theorem rect_rsSet (s : Fin 4) (inb : ∀ a, (![s.val, 0, 0] : Fin 3 → ℕ) a + S1x64x512.size a ≤ S4x64x512.size a) :
    (Rect.unit (s := S4x64x512) ![s.val, 0, 0] S1x64x512.size inb).set = rsSet s := by
  ext i
  have h1 : (i 1).val < 64 := (i 1).isLt
  have h2 : (i 2).val < 512 := (i 2).isLt
  rw [Rect.mem_set_unit, rsSet, Finset.mem_filter]
  constructor
  · intro h
    have h0 := h 0
    refine ⟨Finset.mem_univ _, ?_⟩
    change s.val ≤ (i 0).val ∧ (i 0).val < s.val + 1 at h0
    omega
  · rintro ⟨-, h⟩ a
    fin_cases a
    · show s.val ≤ (i 0).val ∧ (i 0).val < s.val + 1
      omega
    · show 0 ≤ (i 1).val ∧ (i 1).val < 0 + 64
      omega
    · show 0 ≤ (i 2).val ∧ (i 2).val < 0 + 512
      omega

/-- The view of a chunk of the partial product has the chunk's elements; -/
theorem pC_set (c : Dev nD) (k : Fin 3) : (pC c k).view.set = pSet (pl c k) := by
  rw [← rect_pSet (pl c k) _ (by rw [k0_off2_eq]; rfl) (k0_off2_inb c k)]
  exact View.set_slice_whole _ _
/-- of a slot the slot's, with -/
theorem slotV_set (s : Fin 4) : (slotV s).view.set = rsSet s := (View.set_slice_whole _ _).trans (rect_rsSet s _)
/-- and without the unit axis; -/
theorem slotM_set (s : Fin 4) : (slotM s).view.set = rsSet s := (View.set_reshape _ _).trans (slotV_set s)
/-- of a chunk of the result the chunk's. -/
theorem oC_set (e : Dev nD) : (oC e).view.set = oSet e := by
  have hs : (Rect.unit (s := S2x128x512) (k0_off4 e) S1x64x512.size (k0_off4_inb e)).set = oSet e := by
    ext i
    have h0 : (i 0).val < 2 := (i 0).isLt
    have h1 : (i 1).val < 128 := (i 1).isLt
    have h2 : (i 2).val < 512 := (i 2).isLt
    have he : e.val < 4 := e.isLt
    rw [Rect.mem_set_unit, oSet, Finset.mem_filter, k0_off4_eq]
    constructor
    · intro h
      have g0 := h 0
      have g1 := h 1
      refine ⟨Finset.mem_univ _, ?_⟩
      change e.val / 2 ≤ (i 0).val ∧ (i 0).val < e.val / 2 + 1 at g0
      change 64 * (e.val % 2) ≤ (i 1).val ∧ (i 1).val < 64 * (e.val % 2) + 64 at g1
      omega
    · rintro ⟨-, h⟩ a
      fin_cases a
      · show e.val / 2 ≤ (i 0).val ∧ (i 0).val < e.val / 2 + 1
        omega
      · show 64 * (e.val % 2) ≤ (i 1).val ∧ (i 1).val < 64 * (e.val % 2) + 64
        omega
      · show 0 ≤ (i 2).val ∧ (i 2).val < 0 + 512
        omega
  exact (View.set_slice_whole _ _).trans hs

/-! ## Contents -/

/-- The partial product as the kernel computes it from the five loaded arrays. -/
def partialOf (x : Vec F S2x128x512 .f32) (wq wo : Vec F S512x512 .f32) (wk wv : Vec F S512x128 .f32) : FVec F S256x512 .f32 :=
  have z : FVec F S512x128 .f32 := constant S512x128 .f32 0x00000000#32
  k0_pay21 (k0_pay20 (k0_pay2 x wq) (k0_pay3 x wk) (k0_pay4 x wv)
    (k0_pay9 (k0_pay5 x wq) (k0_pay6 x wk) (k0_pay7 x wv) z) (k0_pay10 (k0_pay5 x wq) (k0_pay6 x wk) (k0_pay7 x wv) z)
    (k0_pay11 (k0_pay5 x wq) (k0_pay6 x wk) (k0_pay7 x wv) z) (k0_pay12 (k0_pay5 x wq) (k0_pay6 x wk) (k0_pay7 x wv) z)
    (k0_pay14 (k0_pay2 x wq) (k0_pay3 x wk) (k0_pay4 x wv)) (k0_pay15 (k0_pay2 x wq) (k0_pay3 x wk) (k0_pay4 x wv))
    (k0_pay16 (k0_pay2 x wq) (k0_pay3 x wk) (k0_pay4 x wv)) (k0_pay17 (k0_pay2 x wq) (k0_pay3 x wk) (k0_pay4 x wv))
    (k0_pay18 (k0_pay4 x wv)) (k0_pay19 (k0_pay2 x wq) (k0_pay3 x wk)) (Scalar.ofBits .f32 0x3E000000#32) wo)

variable (m : (ℓ : Loc nD τ sig) → Buf (Elt F) ℓ)

/-- The five arrays device `c` loads. -/
def vX (c : Dev nD) : Vec F S2x128x512 .f32 := m ((c : Thread nD τ).loc main_arg0)
def vWq (c : Dev nD) : Vec F S512x512 .f32 := m ((c : Thread nD τ).loc main_arg1)
def vWo (c : Dev nD) : Vec F S512x512 .f32 := m ((c : Thread nD τ).loc main_arg4)
def vWk (c : Dev nD) : Vec F S512x128 .f32 := (wkC c).view.read (Elt F) (m ((c : Thread nD τ).loc main_arg2))
def vWv (c : Dev nD) : Vec F S512x128 .f32 := (wvC c).view.read (Elt F) (m ((c : Thread nD τ).loc main_arg3))

/-- Device `c`'s partial product. -/
def vP (c : Dev nD) : Vec F S256x512 .f32 := partialOf (vX m c) (vWq m c) (vWo m c) (vWk m c) (vWv m c)

set_option backward.proofsInPublic true in
/-- Row `r` of chunk `e`. -/
def row (e : Dev nD) (r : Fin 64) : Fin 256 := ⟨64 * e.val + r.val, by have h : e.val < 4 := e.isLt; omega⟩

/-- Device `d`'s landing buffer once full: slot `s` holds chunk `d` of the partial product of the device `s` places back. -/
def vRs (d : Dev nD) : Vec F S4x64x512 .f32 := fun i => vP m (bk d (i 0)) (ix2 (row d (i 1)) (i 2))

/-- Slot `s` of it. -/
def vSlot (d : Dev nD) (s : Fin 4) : Vec F S1x64x512 .f32 := fun i => vP m (bk d s) (ix2 (row d (i 1)) (i 2))

/-- The chunk of the result that device `d` sums. -/
def vRed (d : Dev nD) : Vec F S1x64x512 .f32 := k0_pay23 (vSlot m d 0) (vSlot m d 1) (vSlot m d 2) (vSlot m d 3)

set_option backward.proofsInPublic true in
/-- The result, the same on every device. -/
def vOut : Vec F S2x128x512 .f32 := fun i =>
  vRed m ⟨(i 0).val * 2 + (i 1).val / 64, by
      have h : (i 0).val < 2 := (i 0).isLt
      have h' : (i 1).val < 128 := (i 1).isLt
      show _ < 4; omega⟩
    (ix3 (0 : Fin 1) ⟨(i 1).val % 64, Nat.mod_lt _ (by decide)⟩ (i 2))

/-! ## What the views read off the contents -/

/-- Chunk `pl c k` of the partial product, row by row. -/
theorem pC_read (c : Dev nD) (k : Fin 3) (f : Vec F S256x512 .f32) (x : S64x512.Idx) :
    (pC c k).view.read (Elt F) f x = f (ix2 (row (pl c k) (x 0)) (x 1)) := by
  show f ((Rect.unit (s := S256x512) (k0_off2 c (BitVec.ofNat 32 (1 + k.val))) S64x512.size (k0_off2_inb c k)).emb x) = _
  congr 1
  funext a
  apply Fin.ext
  rw [Rect.emb_apply]
  show k0_off2 c (BitVec.ofNat 32 (1 + k.val)) a + 1 * (x a).val = _
  rw [k0_off2_eq]
  fin_cases a
  · show 64 * ((c.val + k.val + 1) % 4) + 1 * (x 0).val = 64 * ((c.val + (k.val + 1)) % 4) + (x 0).val
    rw [Nat.one_mul, Nat.add_assoc]
  · show 0 + 1 * (x 1).val = (x 1).val
    omega

/-- The slot's view with the unit axis reads the slot, -/
theorem slotV_read (d : Dev nD) (s : Fin 4) : (slotV s).view.read (Elt F) (vRs m d) = vSlot m d s := by
  funext x
  show vRs m d ((Rect.unit (s := S4x64x512) ![s.val, 0, 0] S1x64x512.size (slot_inb s)).emb x) = _
  have e : (Rect.unit (s := S4x64x512) ![s.val, 0, 0] S1x64x512.size (slot_inb s)).emb x = ix3 s (x 1) (x 2) := by
    funext a
    apply Fin.ext
    rw [Rect.emb_apply]
    have h0 : (x 0).val < 1 := (x 0).isLt
    fin_cases a
    · show s.val + 1 * (x 0).val = s.val
      omega
    · show 0 + 1 * (x 1).val = (x 1).val
      omega
    · show 0 + 1 * (x 2).val = (x 2).val
      omega
  rw [e]; rfl

/-- and the view without it, the same without its unit axis. -/
theorem slotM_read (d : Dev nD) (s : Fin 4) (x : S64x512.Idx) :
    (slotM s).view.read (Elt F) (vRs m d) x = vP m (bk d s) (ix2 (row d (x 0)) (x 1)) := by
  have h : (slotM s).view.read (Elt F) (vRs m d) x
      = (slotV s).view.read (Elt F) (vRs m d) (Shape.reshapeEquiv (Shape.Squeezes.numel_eq squeezes_S1x64x512_S64x512) x) := rfl
  have ex : x = ix2 (x 0) (x 1) := by funext a; fin_cases a <;> rfl
  have er : Shape.reshapeEquiv (Shape.Squeezes.numel_eq squeezes_S1x64x512_S64x512) x = ix3 (0 : Fin 1) (x 0) (x 1) :=
    (congrArg _ ex).trans (reshapeEquiv_ix2_1ab _ (x 0) (x 1))
  rw [h, slotV_read, er]
  rfl

/-- What a peer's copy brings is what the slot is to hold. -/
theorem slot_landing (c : Dev nD) (k : Fin 3) :
    (pC c k).view.read (Elt F) (vP m c) = (slotM k.succ).view.read (Elt F) (vRs m (pl c k)) := by
  funext x
  rw [pC_read, slotM_read, bk_pl]

/-- The result's chunk `e` is what device `e` sums. -/
theorem oC_read (e : Dev nD) : (oC e).view.read (Elt F) (vOut m) = vRed m e := by
  funext x
  show vOut m ((Rect.unit (s := S2x128x512) (k0_off4 e) S1x64x512.size (k0_off4_inb e)).emb x) = _
  have h0 : (x 0).val < 1 := (x 0).isLt
  have h1 : (x 1).val < 64 := (x 1).isLt
  have he : e.val < 4 := e.isLt
  have e0 : ((Rect.unit (s := S2x128x512) (k0_off4 e) S1x64x512.size (k0_off4_inb e)).emb x 0).val = e.val / 2 := by
    rw [Rect.emb_apply]
    show k0_off4 e 0 + 1 * (x 0).val = _
    rw [k0_off4_eq]
    show e.val / 2 + 1 * (x 0).val = _
    omega
  have e1 : ((Rect.unit (s := S2x128x512) (k0_off4 e) S1x64x512.size (k0_off4_inb e)).emb x 1).val = 64 * (e.val % 2) + (x 1).val := by
    rw [Rect.emb_apply]
    show k0_off4 e 1 + 1 * (x 1).val = _
    rw [k0_off4_eq]
    show 64 * (e.val % 2) + 1 * (x 1).val = _
    omega
  have e2 : ((Rect.unit (s := S2x128x512) (k0_off4 e) S1x64x512.size (k0_off4_inb e)).emb x 2).val = (x 2).val := by
    rw [Rect.emb_apply]
    show k0_off4 e 2 + 1 * (x 2).val = _
    rw [k0_off4_eq]
    show 0 + 1 * (x 2).val = _
    omega
  unfold vOut
  congr 1
  · apply Fin.ext
    show _ * 2 + _ / 64 = e.val
    rw [e0, e1]; omega
  · funext a
    apply Fin.ext
    fin_cases a
    · show 0 = (x 0).val
      omega
    · show _ % 64 = (x 1).val
      rw [e1]; omega
    · exact e2

/-- The own chunk of the partial product, loaded and stored with a unit axis put in front, is slot 0. -/
theorem own_slot (d : Dev nD) :
    k0_pay22 (pM.view.readAt (Elt F) (Rect.unit (s := S256x512) (k0_off3 d) S64x512.size (k0_off3_inb d)).toLoadRect (vP m d)) = vSlot m d 0 := by
  funext x
  unfold k0_pay22
  rw [show (shapeCast S1x64x512 (pM.view.readAt (Elt F) (Rect.unit (s := S256x512) (k0_off3 d) S64x512.size (k0_off3_inb d)).toLoadRect (vP m d)) shapeCasts_S64x512_S1x64x512 x : F .f32)
      = pM.view.readAt (Elt F) (Rect.unit (s := S256x512) (k0_off3 d) S64x512.size (k0_off3_inb d)).toLoadRect (vP m d) (ix2 (x 1) (x 2)) from
    (shapeCast_addUnit_apply ![64, 512] _ shapeCasts_S64x512_S1x64x512 x).trans (congrArg _ (by funext a; fin_cases a <;> rfl))]
  show vP m d ((Rect.unit (s := S256x512) (k0_off3 d) S64x512.size (k0_off3_inb d)).emb (ix2 (x 1) (x 2))) = vP m (bk d 0) (ix2 (row d (x 1)) (x 2))
  rw [bk_zero]
  congr 1
  funext a
  apply Fin.ext
  rw [Rect.emb_apply]
  fin_cases a
  · show k0_off3 d 0 + 1 * (x 1).val = 64 * d.val + (x 1).val
    rw [show k0_off3 d 0 = 64 * d.val from congrFun (k0_off3_eq d) 0]
    omega
  · show k0_off3 d 1 + 1 * (x 2).val = (x 2).val
    rw [show k0_off3 d 1 = 0 from congrFun (k0_off3_eq d) 1]
    omega

end Cert.KernelIdealProof

end
-- ==== Proof.KernIdeal.Sched.lean ====
/-
# What each semaphore counts and what its waiter gets

Every semaphore of the kernel is signalled in one round only.  This module says, for each of them, how many units it
receives, from whom, and which elements of which arrays come with the units: the arrays of a copy on one device, the
landing slots and the chunks of the result a peer may write once it has met its barrier, the chunks that arrived.  It
also orders the semaphores, so that a device never waits for a unit while it still owes one at or below it.
-/
module

public import proofs.«01_k».proof.Proof.KernIdeal.Geo

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state's type -/

abbrev UB := URounds (GSem nD τ sig) (Fin 3)
abbrev UU := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

abbrev 𝒱₀ : Variants := Variants.none

/-! ## The semaphores by their use -/

/-- What a copy's semaphore is for: one of the five loads, the store of the own chunk, the departure and the arrival of
    a chunk in the first and in the second exchange; `off` for the four the kernel never touches. -/
inductive Use where
  | inp (i : Fin 5) | out | rsS (k : Fin 3) | rsR (k : Fin 3) | agS (k : Fin 3) | agR (k : Fin 3) | off
  deriving DecidableEq

/-- The use of each of the 22 semaphores of the copies, -/
def useOf (s : Fin 22) : Use :=
  (![.inp 0, .inp 1, .inp 2, .inp 3, .inp 4, .out, .off, .rsS 0, .rsS 1, .rsS 2, .off, .rsR 0, .rsR 1, .rsR 2,
    .off, .agS 0, .agS 1, .agS 2, .off, .agR 0, .agR 1, .agR 2] : Fin 22 → Use) s

set_option backward.proofsInPublic true in
/-- and the semaphore of each use. -/
def semOf : Use → Fin 22
  | .inp i => ⟨i.val, by omega⟩
  | .out => 5
  | .rsS k => ⟨7 + k.val, by omega⟩
  | .rsR k => ⟨11 + k.val, by omega⟩
  | .agS k => ⟨15 + k.val, by omega⟩
  | .agR k => ⟨19 + k.val, by omega⟩
  | .off => 6

theorem useOf_semOf (u : Use) : useOf (semOf u) = u := by
  cases u with
  | inp i => revert i; decide
  | out => rfl
  | rsS k => revert k; decide
  | rsR k => revert k; decide
  | agS k => revert k; decide
  | agR k => revert k; decide
  | off => rfl

/-- Every used semaphore is the semaphore of its use. -/
theorem semOf_useOf (s : Fin 22) (h : useOf s ≠ .off) : semOf (useOf s) = s := by revert s; decide

/-- The barrier semaphore. -/
abbrev barS : Sem sig := (SemArray.scalar (sig.barrier 0 rfl) : Sems sig S_).sem

/-- Device `c`'s barrier semaphore and its semaphore of use `u`. -/
abbrev barC (c : Dev nD) : GSem nD τ sig := ((c : Thread nD τ), .reg barS)
abbrev cel (c : Dev nD) (u : Use) : GSem nD τ sig := ((c : Thread nD τ), .dma (semOf u))
abbrev kcell (cs : Dev nD × SemLoc sig) : GSem nD τ sig := ((cs.1 : Thread nD τ), cs.2)

/-! ## What comes with the units -/

/-- The four parts the summed chunk is lent out in: to the store on the own device and to the three sends. -/
def part (s : Fin 4) : PosShare TreeShare :=
  (![fullShare.left.left, fullShare.left.right, fullShare.right.left, fullShare.right.right] : Fin 4 → PosShare TreeShare) s

/-- The units a use's semaphore receives. -/
def amt : Use → ℕ
  | .inp i => (![xM.view.dmaCredit, wqM.view.dmaCredit, wkM.view.dmaCredit, wvM.view.dmaCredit, woM.view.dmaCredit] : Fin 5 → ℕ) i
  | .rsS _ | .rsR _ => (slotM 1).view.dmaCredit
  | .out | .agS _ | .agR _ => redM.view.dmaCredit
  | .off => 1

theorem amt_pos (u : Use) : 0 < amt u := by
  cases u with
  | inp i => fin_cases i <;> exact View.dmaCredit_pos _ (by decide)
  | out => exact View.dmaCredit_pos _ (by decide)
  | rsS k => exact View.dmaCredit_pos _ (by decide)
  | rsR k => exact View.dmaCredit_pos _ (by decide)
  | agS k => exact View.dmaCredit_pos _ (by decide)
  | agR k => exact View.dmaCredit_pos _ (by decide)
  | off => exact Nat.one_pos

/-- A whole array of device `c` at contents `f`, and its elements in `S` only. -/
abbrev hold (c : Dev nD) (b : Ref sig .tc) (f : Buf (Elt F) ((c : Thread nD τ).loc b)) : sProp 𝕄 := ((c : Thread nD τ).loc b) ↦{fullShare} f
abbrev holdOn (c : Dev nD) (b : Ref sig .tc) (S : Finset (Idx ((c : Thread nD τ).loc b))) (f : Buf (Elt F) ((c : Thread nD τ).loc b)) : sProp 𝕄 :=
  ((c : Thread nD τ).loc b) ↦[S]{fullShare} f

/-- A load's end: the array in fast memory at the loaded contents, and what it was loaded from. -/
def inPay (c : Dev nD) : Fin 5 → sProp 𝕄
  | 0 => iprop(hold c cc0_scratch0 (vX m c) ∗ hold c main_arg0 (vX m c))
  | 1 => iprop(hold c cc0_scratch1 (vWq m c) ∗ hold c main_arg1 (vWq m c))
  | 2 => iprop(hold c cc0_scratch3 (vWk m c) ∗ holdOn c main_arg2 (wkC c).view.set (m ((c : Thread nD τ).loc main_arg2)))
  | 3 => iprop(hold c cc0_scratch4 (vWv m c) ∗ holdOn c main_arg3 (wvC c).view.set (m ((c : Thread nD τ).loc main_arg3)))
  | 4 => iprop(hold c cc0_scratch2 (vWo m c) ∗ hold c main_arg4 (vWo m c))

/-- The part `s` of the summed chunk of device `c`. -/
def redPart (c : Dev nD) (s : Fin 4) : sProp 𝕄 := ((c : Thread nD τ).loc cc0_scratch7) ↦{part s} (vRed m c : Buf (Elt F) ((c : Thread nD τ).loc cc0_scratch7))

/-- What the units of each use bring its waiter `c`. -/
def pay (c : Dev nD) : Use → sProp 𝕄
  | .inp i => inPay m c i
  | .out => iprop(holdOn c main_v1 (oSet c) (vOut m) ∗ redPart m c 0)
  | .rsS k => holdOn c cc0_scratch5 (pSet (pl c k)) (vP m c)
  | .rsR k => holdOn c cc0_scratch6 (rsSet k.succ) (vRs m c)
  | .agS k => redPart m c k.succ
  | .agR k => holdOn c main_v1 (oSet (pl c k.rev)) (vOut m)
  | .off => iprop(emp)

/-- What the barrier signal of `pl e k` brings device `e`: the slot of that peer's landing buffer and the chunk of that
    peer's result that `e` is to write. -/
def barPay (e : Dev nD) (k : Fin 3) : sProp 𝕄 :=
  iprop((∃ f, holdOn (pl e k) cc0_scratch6 (rsSet k.succ) f) ∗ (∃ f, holdOn (pl e k) main_v1 (oSet e) f))

omit [FloatOps F] in
instance barPay_storable (e : Dev nD) (k : Fin 3) : BI.Storable (upEmb : UEmb _ 𝕄) (barPay (F := F) e k) := by unfold barPay; infer_instance
instance inPay_storable (c : Dev nD) (i : Fin 5) : BI.Storable (upEmb : UEmb _ 𝕄) (inPay m c i) := by
  fin_cases i <;> (dsimp only [inPay]; infer_instance)
instance pay_storable (c : Dev nD) (u : Use) : BI.Storable (upEmb : UEmb _ 𝕄) (pay m c u) := by
  cases u <;> (dsimp only [pay]; try unfold redPart) <;> infer_instance

/-! ## The schedule -/

/-- One round: the barrier semaphore has one duty of one unit from each peer, a used semaphore of a copy one duty. -/
def sched : Rounds.Schedule (GSem nD τ sig) (Fin 3) 𝕄 where
  duties g r := if r = 0 ∧ g.1.2 = .tc then (match g.2 with | .reg _ => Finset.univ | .dma s => if useOf s = .off then ∅ else {0}) else ∅
  unitless _ := False
  amount g _ _ := match g.2 with | .reg _ => 1 | .dma s => amt (useOf s)
  payload g _ d := match g.2 with | .reg _ => barPay g.1.1 d | .dma s => pay m g.1.1 (useOf s)
  amount_pos g _ _ _ := by
    rcases g with ⟨t, s | s⟩
    · exact Nat.one_pos
    · exact amt_pos _

instance sched_storable (g : GSem nD τ sig) (r : ℕ) (d : Fin 3) : BI.Storable (upEmb : UEmb _ 𝕄) ((sched m).payload g r d) := by
  rcases g with ⟨t, s | s⟩
  · exact barPay_storable t.1 d
  · exact pay_storable m t.1 (useOf s)

section Tables
variable (c : Dev nD) (u : Use)

theorem duties_bar : (sched m).duties (barC c) 0 = Finset.univ := by dsimp only [sched]; exact if_pos ⟨rfl, rfl⟩
theorem duties_cel (h : u ≠ .off) : (sched m).duties (cel c u) 0 = {0} := by
  dsimp only [sched]; rw [if_pos ⟨rfl, rfl⟩, useOf_semOf, if_neg h]
theorem duties_later (g : GSem nD τ sig) : ∀ r, 1 ≤ r → (sched m).duties g r = ∅ :=
  fun r hr => by dsimp only [sched]; rw [if_neg fun h => by omega]
theorem duties_off (s : Fin 22) (h : useOf s = .off) : ∀ r, 0 ≤ r → (sched m).duties ((c : Thread nD τ), .dma s) r = ∅ :=
  fun r _ => by dsimp only [sched]; rw [if_pos h, ite_self]

theorem amount_bar (d : Fin 3) : (sched m).amount (barC c) 0 d = 1 := rfl
theorem amount_cel (d : Fin 3) : (sched m).amount (cel c u) 0 d = amt u := by dsimp only [sched]; rw [useOf_semOf]
theorem expect_bar : (sched m).expect (barC c) 0 = 3 := by
  unfold Schedule.expect Schedule.amountOf
  rw [duties_bar, Finset.sum_congr rfl fun d _ => amount_bar m c d, Finset.sum_const, Finset.card_univ, Fintype.card_fin, smul_eq_mul]
theorem expect_cel (h : u ≠ .off) : (sched m).expect (cel c u) 0 = amt u := by
  unfold Schedule.expect Schedule.amountOf; rw [duties_cel m c u h, Finset.sum_singleton, amount_cel]
theorem payload_bar (d : Fin 3) : (sched m).payload (barC c) 0 d = barPay c d := rfl
theorem payload_cel (d : Fin 3) : (sched m).payload (cel c u) 0 d = pay m c u := by dsimp only [sched]; rw [useOf_semOf]

/-- All that comes with the barrier's units, -/
theorem rest_bar : bigSep ((sched m).duties (barC c) 0 \ ∅) (fun d => (sched m).payload (barC c) 0 d) = bigSep Finset.univ (barPay (F := F) c) := by
  rw [Finset.sdiff_empty, duties_bar]; rfl
/-- and with the units of a copy's semaphore. -/
theorem rest_cel (h : u ≠ .off) : bigSep ((sched m).duties (cel c u) 0 \ ∅) (fun d => (sched m).payload (cel c u) 0 d) = pay m c u := by
  rw [Finset.sdiff_empty, duties_cel m c u h, bigSep_singleton, payload_cel]

end Tables

/-! ## What a device owes, and the order of the semaphores -/

/-- The units still to be sent to each listed semaphore, the first listed being the next sent. -/
def owing : List (GSem nD τ sig × ℕ) → CellTallies nD τ sig Unit
  | [] => 0
  | p :: l => owing l + tallyAt p.1 () p.2

/-- The arrivals in the second exchange that device `c` causes, -/
abbrev debtA (c : Dev nD) (k : Fin 3) : GSem nD τ sig × ℕ := (cel (pl c k) (.agR k), amt (.agR k))
/-- those in the first, -/
abbrev debtR (c : Dev nD) (k : Fin 3) : GSem nD τ sig × ℕ := (cel (pl c k) (.rsR k), amt (.rsR k))
/-- and its barrier signals. -/
abbrev debtB (c : Dev nD) (k : Fin 3) : GSem nD τ sig × ℕ := (barC (pl c k), 1)

/-- Before the second exchange, before the first, and at launch. -/
def owed2 (c : Dev nD) : List (GSem nD τ sig × ℕ) := [debtA c 0, debtA c 1, debtA c 2]
def owed1 (c : Dev nD) : List (GSem nD τ sig × ℕ) := debtR c 0 :: debtR c 1 :: debtR c 2 :: owed2 c
def owed0 (c : Dev nD) : List (GSem nD τ sig × ℕ) := debtB c 0 :: debtB c 1 :: debtB c 2 :: owed1 c

def O₀ (c : Dev nD) : CellTallies nD τ sig Unit := owing (owed0 c)

/-- Every semaphore's units are of one sort; -/
def L (g : GSem nD τ sig) : Finset Unit := if g.1.2 = .tc then {()} else ∅
/-- a copy's own semaphores come first, then the barrier, then the arrivals of the first exchange, then those of the second. -/
def lvS : SemLoc sig → ℕ
  | .reg _ => 1
  | .dma s => match useOf s with
    | .rsR _ => 2
    | .agR _ => 3
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Only listed semaphores are owed units. -/
theorem owing_pos {l : List (GSem nD τ sig × ℕ)} {g : GSem nD τ sig} {u : Unit} (h : 0 < owing l g u) : ∃ p ∈ l, p.1 = g := by
  induction l with
  | nil => exact absurd h (Nat.lt_irrefl 0)
  | cons p l ih =>
    rw [owing, Pi.add_apply, Finsupp.add_apply, tallyAt_apply] at h
    by_cases hp : g = p.1 ∧ u = ()
    · exact ⟨p, List.mem_cons_self, hp.1.symm⟩
    · rw [if_neg hp, Nat.add_zero] at h
      obtain ⟨p', h1, h2⟩ := ih h
      exact ⟨p', List.mem_cons_of_mem _ h1, h2⟩

/-- A semaphore may be waited for while only semaphores above it are owed units. -/
theorem mayWait_list (c : Dev nD) (s : SemLoc sig) (l : List (GSem nD τ sig × ℕ)) (hl : ∀ p ∈ l, p.1.1.2 = .tc ∧ lvS s < lvS p.1.2) :
    (levAts L lv : sProp 𝕄) ⊢ MayWait (c : Thread nD τ) s () (owing l) :=
  MayOwe.of_cut (L := L) (lev := lv) (lvS s) (fun p hp => by rw [Finset.mem_singleton.mp hp, L_tc]; exact Finset.mem_singleton_self _)
    (fun g u hg => by
      obtain ⟨p, hp, rfl⟩ := owing_pos hg
      unfold L; rw [if_pos (hl p hp).1]; exact Finset.mem_singleton_self _)
    (fun p hp => by rw [Finset.mem_singleton.mp hp]; exact Nat.le_refl _)
    (fun g u hg => by
      obtain ⟨p, hp, rfl⟩ := owing_pos hg
      exact (hl p hp).2)

/-- Above the barrier and the copies' own semaphores lie the arrivals of both exchanges, -/
theorem above1 (c : Dev nD) (s : SemLoc sig) (hs : lvS s < 2) : ∀ p ∈ owed1 c, p.1.1.2 = .tc ∧ lvS s < lvS p.1.2 := by
  intro p hp
  simp only [owed1, owed2, List.mem_cons, List.not_mem_nil, or_false] at hp
  rcases hp with rfl | rfl | rfl | rfl | rfl | rfl <;> refine ⟨rfl, ?_⟩
  · exact hs
  · exact hs
  · exact hs
  · exact Nat.lt_succ_of_lt hs
  · exact Nat.lt_succ_of_lt hs
  · exact Nat.lt_succ_of_lt hs
/-- and above the arrivals of the first exchange those of the second. -/
theorem above2 (c : Dev nD) (s : SemLoc sig) (hs : lvS s < 3) : ∀ p ∈ owed2 c, p.1.1.2 = .tc ∧ lvS s < lvS p.1.2 := by
  intro p hp
  simp only [owed2, List.mem_cons, List.not_mem_nil, or_false] at hp
  rcases hp with rfl | rfl | rfl <;> exact ⟨rfl, hs⟩

end Cert.KernelIdealProof

end
-- ==== Proof.KernIdeal.Steps.lean ====
/-
# One rule per kind of effect

The kernel's body is made of barrier signals, one barrier wait, copies on the own device, copies to a peer, and waits for
copies.  Each kind has one rule here, stated for any semaphore, any peer and any chunk, so that the body's parts only name
the chunk they move.
-/
module

public import proofs.«01_k».proof.Proof.KernIdeal.Sched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What every device knows -/

/-- Every semaphore of every device follows the schedule (its record kept under the name `K` gives it), is past its start,
    and the order of the semaphores. -/
def records (K : Dev nD × SemLoc sig → ℕ) : sProp 𝕄 :=
  iprop((bigSep Finset.univ fun cs : Dev nD × SemLoc sig => cellInv ER (sched m) (K cs) (kcell cs))
    ∗ (bigSep Finset.univ fun cs : Dev nD × SemLoc sig => reached ER (kcell cs) 0) ∗ levAts L lv)

instance records_persistent (K : Dev nD × SemLoc sig → ℕ) : BI.Persistent (records m K) := by unfold records; infer_instance

theorem records_inv (K : Dev nD × SemLoc sig → ℕ) (cs : Dev nD × SemLoc sig) : records m K ⊢ cellInv ER (sched m) (K cs) (kcell cs) := by
  unfold records
  iintro ⟨H, -, -⟩
  iapply (show (bigSep Finset.univ fun cs : Dev nD × SemLoc sig => (cellInv ER (sched m) (K cs) (kcell cs) : sProp 𝕄)) ⊢ cellInv ER (sched m) (K cs) (kcell cs) from
    bigSep_elim (Finset.mem_univ cs))
  iexact H
theorem records_reached (K : Dev nD × SemLoc sig → ℕ) (cs : Dev nD × SemLoc sig) : records m K ⊢ reached ER (kcell cs) 0 := by
  unfold records
  iintro ⟨-, H, -⟩
  iapply (show (bigSep Finset.univ fun cs : Dev nD × SemLoc sig => (reached ER (kcell cs) 0 : sProp 𝕄)) ⊢ reached ER (kcell cs) 0 from
    bigSep_elim (Finset.mem_univ cs))
  iexact H
theorem records_lev (K : Dev nD × SemLoc sig → ℕ) : records m K ⊢ (levAts L lv : sProp 𝕄) := by
  unfold records
  iintro ⟨-, -, H⟩
  iexact H

/-- Device `c` owes the listed units, whatever it has waited for. -/
def Ow (c : Dev nD) (l : List (GSem nD τ sig × ℕ)) : sProp 𝕄 := iprop(∃ W, owes (c : Thread nD τ) (owing l) W)

/-- The elements of a view at contents `f`. -/
abbrev at_ (c : Dev nD) {sp : Space} {s : Shape} {e : EltTy} (v : Memref sig .tc sp s e) (q : PosShare TreeShare)
    (f : Buf (Elt F) (v.view.loc (c : Thread nD τ))) : sProp 𝕄 := v.view.loc (c : Thread nD τ) ↦[v.view.set]{q} f

/-- A written view holds what was written: contents `g` that read the same there, element by element -/
theorem landed_on {c : Dev nD} {sp : Space} {s : Shape} {e : EltTy} (v : Memref sig .tc sp s e) (f g : Buf (Elt F) (v.view.loc (c : Thread nD τ)))
    (w : s.Idx → Elt F e) (h : w = v.view.read (Elt F) g) : ∀ i ∈ v.view.set, v.view.write (Elt F) f w Finset.univ i = g i := by
  intro i hi
  obtain ⟨x, -, rfl⟩ := Finset.mem_map.mp hi
  refine (View.write_emb_of_mem _ _ (Finset.mem_univ x)).trans ?_
  rw [h, View.read_apply, _root_.cast_cast]
  rfl
/-- and held. -/
theorem landed {c : Dev nD} {sp : Space} {s : Shape} {e : EltTy} (v : Memref sig .tc sp s e) (f g : Buf (Elt F) (v.view.loc (c : Thread nD τ)))
    (w : s.Idx → Elt F e) (h : w = v.view.read (Elt F) g) :
    (at_ c v fullShare (v.view.write (Elt F) f w Finset.univ) : sProp 𝕄) = at_ c v fullShare g :=
  pointsTo_congr (landed_on v f g w h)

section Steps

variable {α : Type} {Q : α → sProp (MT nD τ sig Unit (Elt F) ℕ UU ℕ)} (k : PUnit → Prog (TpuEff nD τ sig (Elt F) Λ₀ .tc) α) (K : Dev nD × SemLoc sig → ℕ) (c : Dev nD)

/-- The rest of device `c`'s body is right: it ends with `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A barrier signal to the peer `pl c j`: it hands over the slot of the own landing buffer and the chunk of the own result
    that this peer writes. -/
theorem step_signal (j : Fin 3) (n : Dev nD) (hn : n = pl c j) (sm : Sem sig) (hsm : sm = barS) (k' : ℕ) (hk' : 1 = k')
    (l : List (GSem nD τ sig × ℕ)) :
    iprop(records m K ∗ Ow c (debtB c j :: l) ∗ dutyTok ER (barC (pl c j)) 0 j.rev
        ∗ (∃ f, holdOn c cc0_scratch6 (rsSet j.rev.succ) f) ∗ (∃ f, holdOn c main_v1 (oSet (pl c j)) f))
      ⊢ iprop((Ow c l -∗ WP c (k ⟨⟩) Q) -∗ WP c (.op (.semSignal (n : Thread nD τ) sm k') k) Q) := by
  subst hn hsm hk'
  unfold Ow
  iintro ⟨#HR, ⟨%W, HO⟩, Ht, Hs, Ho⟩ Hk
  iapply (Rounds.wp_signal 𝒱₀ ER (sched m) (c : Thread nD τ) none (dst := (pl c j : Thread nD τ)) (κ := K (pl c j, .reg barS))
      (d := j.rev) (by rw [duties_bar]; exact Finset.mem_univ _) (amount_bar m (pl c j) j.rev) () (owing l) rfl) $$ [HO Ht Hs Ho]
  · isplitr; · iapply (records_inv m K (pl c j, .reg barS)); iexact HR
    isplitl [HO]; · iexact HO
    isplitl [Ht]; · iexact Ht
    isplitl [Hs Ho]
    · rw [payload_bar]; unfold barPay; rw [pl_pl_rev]
      isplitl [Hs] <;> iassumption
    iapply (records_reached m K (pl c j, .reg barS)); iexact HR
  iintro HO
  iapply Hk
  iexists W; iexact HO

/-- The barrier wait: what the three peers handed over comes, and the counter is at zero for good. -/
theorem step_barrier (sm : Sem sig) (hsm : sm = barS) (k' : ℕ) (hk' : 3 = k') (l : List (GSem nD τ sig × ℕ))
    (hl : ∀ p ∈ l, p.1.1.2 = .tc ∧ lvS (.reg barS) < lvS p.1.2) :
    iprop(records m K ∗ Ow c l ∗ cred (tallyAt (barC c) () 3) ∗ atPos ER (barC c) 0 ∅ 0)
      ⊢ iprop(((Ow c l ∗ bigSep Finset.univ (barPay (F := F) c) ∗ semVal (barC c) 0) -∗ WP c (k ⟨⟩) Q)
          -∗ WP c (.op (.semWait sm k') k) Q) := by
  subst hsm hk'
  unfold Ow
  iintro ⟨#HR, ⟨%W, HO⟩, Hc, Ha⟩ Hk
  iapply (Rounds.wp_wait_rest_token 𝒱₀ ER (sched m) (c : Thread nD τ) none (κ := K (c, .reg barS))
      (wpE_semWait_eq 𝒱₀ (c : Thread nD τ) none Set.univ) (Set.mem_univ _) () (O := owing l) (W := W) (R := 0) (m := 0) (T := ∅)
      (by rw [Nat.zero_add, expect_bar])) $$ [Hc HO Ha]
  · isplitr; · iapply (records_inv m K (c, .reg barS)); iexact HR
    isplitl [Hc]; · iexact Hc
    isplitl [HO]; · iexact HO
    isplitr; · iapply (mayWait_list c (.reg barS) l hl); iapply (records_lev m K); iexact HR
    iexact Ha
  iintro ⟨HO, Ha, -, Hp⟩
  ihave Hp := (Entails.of_eq (rest_bar m c)) $$ Hp
  imod (Rounds.cell_close ER (sched m) (Set.mem_univ (K (c, .reg barS))) (fun h => h) (R := 0 + 1) (duties_later m (barC c))) $$ [Ha] with Hz
  · isplitr; · iapply (records_inv m K (c, .reg barS)); iexact HR
    iexact Ha
  iapply Hk
  isplitl [HO]; · iexists _; iexact HO
  isplitl [Hp] <;> iassumption

/-- A wait for a copy: what comes with its units, and the counter at zero for good. -/
theorem step_wait (u : Use) (hu : u ≠ .off) (sm : DmaSem sig) (hsm : sm = semOf u) {sp sp' : Space} {s s' : Shape} {e e' : EltTy}
    {src : Memref sig .tc sp' s' e'} {dst : Memref sig .tc sp s e} {hsrc : src.view.WordExact} {hdst : dst.view.WordExact}
    (hN : dst.view.dmaCredit = amt u) (l : List (GSem nD τ sig × ℕ))
    (hl : ∀ p ∈ l, p.1.1.2 = .tc ∧ lvS (.dma (semOf u)) < lvS p.1.2) :
    iprop(records m K ∗ Ow c l ∗ cred (tallyAt (cel c u) () (amt u)) ∗ atPos ER (cel c u) 0 ∅ 0)
      ⊢ iprop(((Ow c l ∗ pay m c u ∗ semVal (cel c u) 0) -∗ WP c (k ⟨⟩) Q)
          -∗ WP c (.op (.waitDma2 sm src dst hsrc hdst) k) Q) := by
  subst hsm
  unfold Ow
  iintro ⟨#HR, ⟨%W, HO⟩, Hc, Ha⟩ Hk
  iapply (Rounds.wp_wait_rest_token 𝒱₀ ER (sched m) (c : Thread nD τ) none (κ := K (c, .dma (semOf u)))
      (wpE_waitDma2_eq 𝒱₀ (c : Thread nD τ) none Set.univ) (Set.mem_univ _) () (O := owing l) (W := W) (R := 0) (m := 0) (T := ∅)
      (by rw [Nat.zero_add, expect_cel m c u hu]; exact hN)) $$ [Hc HO Ha]
  · isplitr; · iapply (records_inv m K (c, .dma (semOf u))); iexact HR
    isplitl [Hc]; · rw [hN]; iexact Hc
    isplitl [HO]; · iexact HO
    isplitr; · iapply (mayWait_list c (.dma (semOf u)) l hl); iapply (records_lev m K); iexact HR
    iexact Ha
  iintro ⟨HO, Ha, -, Hp⟩
  ihave Hp := (Entails.of_eq (rest_cel m c u hu)) $$ Hp
  imod (Rounds.cell_close ER (sched m) (Set.mem_univ (K (c, .dma (semOf u)))) (fun h => h) (R := 0 + 1) (duties_later m (cel c u))) $$ [Ha] with Hz
  · isplitr; · iapply (records_inv m K (c, .dma (semOf u))); iexact HR
    iexact Ha
  iapply Hk
  isplitl [HO]; · iexists _; iexact HO
  isplitl [Hp] <;> iassumption

/-- A copy on the own device starts: source and destination are gone until its wait, its units are promised. -/
theorem step_copy (u : Use) (hu : u ≠ .off) (sm : DmaSem sig) (hsm : sm = semOf u) {sp sp' : Space} {s : Shape} {e : EltTy}
    {src : Memref sig .tc sp s e} {dst : Memref sig .tc sp' s e} {hsrc : src.view.WordExact} {hdst : dst.view.WordExact}
    {hsem : DmaTarget.Typed (nD := nD) (τ := τ) (p := .tc) sp (.dma sm) (.here dst)} (hN : dst.view.dmaCredit = amt u) (q : PosShare TreeShare)
    (fs : Buf (Elt F) (src.view.loc (c : Thread nD τ))) (g : Buf (Elt F) (dst.view.loc (c : Thread nD τ)))
    (hg : src.view.read (Elt F) fs = dst.view.read (Elt F) g)
    (hpay : iprop(at_ c dst fullShare g ∗ at_ c src q fs) ⊢ pay m c u) :
    iprop(records m K ∗ at_ c src q fs ∗ (∃ f, at_ c dst fullShare f) ∗ dutyTok ER (cel c u) 0 0)
      ⊢ iprop((cred (tallyAt (cel c u) () (amt u)) -∗ WP c (k ⟨⟩) Q)
          -∗ WP c (.op (.enqueueDma src (.here dst) (.dma sm) hsrc hdst hsem) k) Q) := by
  subst hsm
  iintro ⟨#HR, Hs, ⟨%f, Hd⟩, Ht⟩ Hk
  iapply (Rounds.wp_copy_pointsTo 𝒱₀ ER (sched m) (c : Thread nD τ) none (κ := K (c, .dma (semOf u))) (r := 0) (d := 0) (fd := f)
      (by rw [duties_cel m c u hu]; exact Finset.mem_singleton_self _) () (amt u) (by exact hN) (amount_cel m c u 0)
      (by rw [payload_cel]; exact (Entails.of_eq (congrArg (fun P => iprop(P ∗ at_ c src q fs)) (landed dst f g _ hg))).trans hpay)) $$ [Hs Hd Ht]
  · isplitr; · iapply (records_inv m K (c, .dma (semOf u))); iexact HR
    isplitl [Hs]; · iexact Hs
    isplitl [Hd]; · iexact Hd
    isplitl [Ht]; · iexact Ht
    iapply (records_reached m K (c, .dma (semOf u))); iexact HR
  iexact Hk

/-- A copy to a peer starts: the source is gone until the departure is waited for, the peer's chunk goes to the peer. -/
theorem step_send (u u' : Use) (hu : u ≠ .off) (hu' : u' ≠ .off) (p n : Dev nD) (hn : n = p) (sm sm' : DmaSem sig) (hsm : sm = semOf u) (hsm' : sm' = semOf u')
    {sp sp' : Space} {s : Shape} {e : EltTy}
    {src : Memref sig .tc sp s e} {dst : Memref sig (Dev.tc n : Thread nD τ).2.kind sp' s e} {hsc : dst.view.ref.isScScratch = false}
    {hsrc : src.view.WordExact} {hdst : dst.view.WordExact}
    {hsem : DmaTarget.Typed sp (.dma sm') (.remote (Dev.tc n : Thread nD τ) dst (.dma sm) hsc)}
    (hN : dst.view.dmaCredit = amt u') (hNu : amt u = amt u') (q : PosShare TreeShare)
    (fs : Buf (Elt F) (src.view.loc (c : Thread nD τ))) (g : Buf (Elt F) ((show Memref sig .tc sp' s e from dst).view.loc (p : Thread nD τ)))
    (hg : src.view.read (Elt F) fs = (show Memref sig .tc sp' s e from dst).view.read (Elt F) g)
    (hpay : at_ c src q fs ⊢ pay m c u) (hpay' : at_ p (show Memref sig .tc sp' s e from dst) fullShare g ⊢ pay m p u')
    (l : List (GSem nD τ sig × ℕ)) :
    iprop(records m K ∗ at_ c src q fs ∗ (∃ f, at_ p (show Memref sig .tc sp' s e from dst) fullShare f) ∗ Ow c ((cel p u', amt u') :: l)
        ∗ dutyTok ER (cel c u) 0 0 ∗ dutyTok ER (cel p u') 0 0)
      ⊢ iprop(((cred (tallyAt (cel c u) () (amt u)) ∗ Ow c l) -∗ WP c (k ⟨⟩) Q)
          -∗ WP c (.op (.enqueueDma src (.remote (Dev.tc n : Thread nD τ) dst (.dma sm) hsc) (.dma sm') hsrc hdst hsem) k) Q) := by
  subst hn hsm hsm'
  unfold Ow
  iintro ⟨#HR, Hs, ⟨%f, Hd⟩, ⟨%W, HO⟩, Ht, Ht'⟩ Hk
  iapply (Rounds.wp_send_pointsTo 𝒱₀ ER (sched m) (c : Thread nD τ) none (κ₁ := K (c, .dma (semOf u))) (κ₂ := K (n, .dma (semOf u')))
      (r₁ := 0) (r₂ := 0) (d₁ := 0) (d₂ := 0) (fd := f)
      (by rw [duties_cel m c u hu]; exact Finset.mem_singleton_self _) (by rw [duties_cel m n u' hu']; exact Finset.mem_singleton_self _)
      () () (amt u') (by exact hN) ((amount_cel m c u 0).trans hNu) (amount_cel m n u' 0) (owing l) rfl (W := W)
      (by rw [payload_cel]; exact hpay)
      (by rw [payload_cel]; exact (Entails.of_eq (landed (c := n) (show Memref sig .tc sp' s e from dst) f g _ hg)).trans hpay')) $$ [Hs Hd HO Ht Ht']
  · isplitr; · iapply (records_inv m K (c, .dma (semOf u))); iexact HR
    isplitr; · iapply (records_inv m K (n, .dma (semOf u'))); iexact HR
    isplitl [Hs]; · iexact Hs
    isplitl [Hd]; · iexact Hd
    isplitl [HO]; · iexact HO
    isplitl [Ht]; · iexact Ht
    isplitr; · iapply (records_reached m K (c, .dma (semOf u))); iexact HR
    isplitl [Ht']; · iexact Ht'
    iapply (records_reached m K (n, .dma (semOf u'))); iexact HR
  iintro ⟨Hc, HO⟩
  iapply Hk
  isplitl [Hc]; · rw [hNu]; iexact Hc
  iexists W; iexact HO

end Steps

end Cert.KernelIdealProof

end
-- ==== Proof.KernIdeal.Loads.lean ====
/-
# The body's first half: the loads and the barrier

The body's first two parts start the five loads, signal the three peers, wait for their three signals and then for four
of the loads; the fourth part waits for the last.
-/
module

public import proofs.«01_k».proof.Proof.KernIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The body's parts, on the kernel's arrays and semaphores. -/
abbrev run1 := k0_part1 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13
abbrev run2 := k0_part2 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13
abbrev run3 := k0_part3 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13
abbrev run4 := k0_part4 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13

/-! ## What the parts need and leave -/

/-- What a load needs: the array it reads, the array it fills at any contents, the right to promise its units. -/
def inPre (c : Dev nD) : Fin 5 → sProp 𝕄
  | 0 => iprop(hold c main_arg0 (vX m c) ∗ (∃ f, hold c cc0_scratch0 f) ∗ dutyTok ER (cel c (.inp 0)) 0 0)
  | 1 => iprop(hold c main_arg1 (vWq m c) ∗ (∃ f, hold c cc0_scratch1 f) ∗ dutyTok ER (cel c (.inp 1)) 0 0)
  | 2 => iprop(holdOn c main_arg2 (wkC c).view.set (m ((c : Thread nD τ).loc main_arg2)) ∗ (∃ f, hold c cc0_scratch3 f) ∗ dutyTok ER (cel c (.inp 2)) 0 0)
  | 3 => iprop(holdOn c main_arg3 (wvC c).view.set (m ((c : Thread nD τ).loc main_arg3)) ∗ (∃ f, hold c cc0_scratch4 f) ∗ dutyTok ER (cel c (.inp 3)) 0 0)
  | 4 => iprop(hold c main_arg4 (vWo m c) ∗ (∃ f, hold c cc0_scratch2 f) ∗ dutyTok ER (cel c (.inp 4)) 0 0)

/-- What a barrier signal needs. -/
def sigPre (c : Dev nD) (j : Fin 3) : sProp 𝕄 :=
  iprop(dutyTok ER (barC (pl c j)) 0 j.rev ∗ (∃ f, holdOn c cc0_scratch6 (rsSet j.rev.succ) f) ∗ (∃ f, holdOn c main_v1 (oSet (pl c j)) f))

/-- What a wait needs: the promised units and the place at the semaphore's start; -/
def toCome (c : Dev nD) (u : Use) : sProp 𝕄 := cred (tallyAt (cel c u) () (amt u))
def atStart (c : Dev nD) (u : Use) : sProp 𝕄 := atPos ER (cel c u) 0 ∅ 0
/-- and leaves: what came, and the counter at zero for good. -/
def came (c : Dev nD) (u : Use) : sProp 𝕄 := iprop(pay m c u ∗ semVal (cel c u) 0)

/-- A wait for a copy in these words. -/
theorem step_wait' {α : Type} {Q : α → sProp (MT nD τ sig Unit (Elt F) ℕ UU ℕ)} (k : PUnit → Prog (TpuEff nD τ sig (Elt F) Λ₀ .tc) α)
    (K : Dev nD × SemLoc sig → ℕ) (c : Dev nD) (u : Use) (hu : u ≠ .off) (sm : DmaSem sig) (hsm : sm = semOf u)
    {sp sp' : Space} {s s' : Shape} {e e' : EltTy}
    {src : Memref sig .tc sp' s' e'} {dst : Memref sig .tc sp s e} {hsrc : src.view.WordExact} {hdst : dst.view.WordExact}
    (hN : dst.view.dmaCredit = amt u) (l : List (GSem nD τ sig × ℕ))
    (hl : ∀ p ∈ l, p.1.1.2 = .tc ∧ lvS (.dma (semOf u)) < lvS p.1.2) :
    iprop(records m K ∗ Ow c l ∗ toCome c u ∗ atStart c u)
      ⊢ iprop(((Ow c l ∗ came m c u) -∗ WP c (k ⟨⟩) Q) -∗ WP c (.op (.waitDma2 sm src dst hsrc hdst) k) Q) := by
  unfold toCome atStart came
  exact step_wait m k K c u hu sm hsm hN l hl

/-- A load starts. -/
theorem step_in {α : Type} {Q : α → sProp (MT nD τ sig Unit (Elt F) ℕ UU ℕ)} (k : PUnit → Prog (TpuEff nD τ sig (Elt F) Λ₀ .tc) α)
    (K : Dev nD × SemLoc sig → ℕ) (c : Dev nD) (u : Use) (hu : u ≠ .off) (sm : DmaSem sig) (hsm : sm = semOf u)
    {sp sp' : Space} {s : Shape} {e : EltTy}
    {src : Memref sig .tc sp s e} {dst : Memref sig .tc sp' s e} {hsrc : src.view.WordExact} {hdst : dst.view.WordExact}
    {hsem : DmaTarget.Typed (nD := nD) (τ := τ) (p := .tc) sp (.dma sm) (.here dst)} (hN : dst.view.dmaCredit = amt u)
    (fs : Buf (Elt F) (src.view.loc (c : Thread nD τ))) (g : Buf (Elt F) (dst.view.loc (c : Thread nD τ)))
    (hg : src.view.read (Elt F) fs = dst.view.read (Elt F) g)
    (P : sProp 𝕄) (hP : P ⊢ iprop(at_ c src fullShare fs ∗ (∃ f, at_ c dst fullShare f) ∗ dutyTok ER (cel c u) 0 0))
    (hpay : iprop(at_ c dst fullShare g ∗ at_ c src fullShare fs) ⊢ pay m c u) :
    iprop(records m K ∗ P)
      ⊢ iprop((toCome c u -∗ WP c (k ⟨⟩) Q)
          -∗ WP c (.op (.enqueueDma src (.here dst) (.dma sm) hsrc hdst hsem) k) Q) := by
  unfold toCome
  exact (sep_mono_right hP).trans (step_copy m k K c u hu sm hsm hN fullShare fs g hg hpay)

/-- A whole array's view has all its elements. -/
theorem at_whole (c : Dev nD) (b : Ref sig .tc) (q : PosShare TreeShare) (f : Buf (Elt F) ((c : Thread nD τ).loc b)) :
    (at_ c (Memref.whole b) q f : sProp 𝕄) = (((c : Thread nD τ).loc b) ↦{q} f) := by
  show ((c : Thread nD τ).loc b ↦[(View.whole b).set]{q} f : sProp 𝕄) = _
  rw [View.set_whole]

/-- A whole array's view reads its contents. -/
theorem read_whole' (b : Ref sig .tc) (f : b.ty.Contents (Elt F)) : (Memref.whole b).view.read (Elt F) f = f := View.read_whole _ _

/-! What each load needs and brings, on the views its copy names. -/

theorem inPre_0 (c : Dev nD) : inPre m c 0 ⊢ iprop(at_ c xA fullShare (vX m c) ∗ (∃ f, at_ c xM fullShare f) ∗ dutyTok ER (cel c (.inp 0)) 0 0) :=
  BIClass.sep_mono (Entails.of_eq (at_whole c main_arg0 fullShare (vX m c)).symm) (sep_mono_left (exists_mono fun f => Entails.of_eq (at_whole c cc0_scratch0 fullShare f).symm))
theorem inPay_0 (c : Dev nD) : iprop(at_ c xM fullShare (vX m c) ∗ at_ c xA fullShare (vX m c)) ⊢ pay m c (.inp 0) :=
  BIClass.sep_mono (Entails.of_eq (at_whole c cc0_scratch0 fullShare (vX m c))) (Entails.of_eq (at_whole c main_arg0 fullShare (vX m c)))
theorem inPre_1 (c : Dev nD) : inPre m c 1 ⊢ iprop(at_ c wqA fullShare (vWq m c) ∗ (∃ f, at_ c wqM fullShare f) ∗ dutyTok ER (cel c (.inp 1)) 0 0) :=
  BIClass.sep_mono (Entails.of_eq (at_whole c main_arg1 fullShare (vWq m c)).symm) (sep_mono_left (exists_mono fun f => Entails.of_eq (at_whole c cc0_scratch1 fullShare f).symm))
theorem inPay_1 (c : Dev nD) : iprop(at_ c wqM fullShare (vWq m c) ∗ at_ c wqA fullShare (vWq m c)) ⊢ pay m c (.inp 1) :=
  BIClass.sep_mono (Entails.of_eq (at_whole c cc0_scratch1 fullShare (vWq m c))) (Entails.of_eq (at_whole c main_arg1 fullShare (vWq m c)))
theorem inPre_2 (c : Dev nD) : inPre m c 2 ⊢ iprop(at_ c (wkC c) fullShare (m ((c : Thread nD τ).loc main_arg2)) ∗ (∃ f, at_ c wkM fullShare f) ∗ dutyTok ER (cel c (.inp 2)) 0 0) :=
  BIClass.sep_mono .refl (sep_mono_left (exists_mono fun f => Entails.of_eq (at_whole c cc0_scratch3 fullShare f).symm))
theorem inPay_2 (c : Dev nD) : iprop(at_ c wkM fullShare (vWk m c) ∗ at_ c (wkC c) fullShare (m ((c : Thread nD τ).loc main_arg2))) ⊢ pay m c (.inp 2) :=
  BIClass.sep_mono (Entails.of_eq (at_whole c cc0_scratch3 fullShare (vWk m c))) .refl
theorem inPre_3 (c : Dev nD) : inPre m c 3 ⊢ iprop(at_ c (wvC c) fullShare (m ((c : Thread nD τ).loc main_arg3)) ∗ (∃ f, at_ c wvM fullShare f) ∗ dutyTok ER (cel c (.inp 3)) 0 0) :=
  BIClass.sep_mono .refl (sep_mono_left (exists_mono fun f => Entails.of_eq (at_whole c cc0_scratch4 fullShare f).symm))
theorem inPay_3 (c : Dev nD) : iprop(at_ c wvM fullShare (vWv m c) ∗ at_ c (wvC c) fullShare (m ((c : Thread nD τ).loc main_arg3))) ⊢ pay m c (.inp 3) :=
  BIClass.sep_mono (Entails.of_eq (at_whole c cc0_scratch4 fullShare (vWv m c))) .refl
theorem inPre_4 (c : Dev nD) : inPre m c 4 ⊢ iprop(at_ c woA fullShare (vWo m c) ∗ (∃ f, at_ c woM fullShare f) ∗ dutyTok ER (cel c (.inp 4)) 0 0) :=
  BIClass.sep_mono (Entails.of_eq (at_whole c main_arg4 fullShare (vWo m c)).symm) (sep_mono_left (exists_mono fun f => Entails.of_eq (at_whole c cc0_scratch2 fullShare f).symm))
theorem inPay_4 (c : Dev nD) : iprop(at_ c woM fullShare (vWo m c) ∗ at_ c woA fullShare (vWo m c)) ⊢ pay m c (.inp 4) :=
  BIClass.sep_mono (Entails.of_eq (at_whole c cc0_scratch2 fullShare (vWo m c))) (Entails.of_eq (at_whole c main_arg4 fullShare (vWo m c)))

/-- A finished body is right if its result is. -/
theorem wp_done {α : Type} {Q : α → sProp (MT nD τ sig Unit (Elt F) ℕ UU ℕ)} (c : Dev nD) {a : α} : Q a ⊢ WP c (Prog.ret a) Q := by
  show Q a ⊢ wp frame (wpE (defs₀ (F := F)) 𝒱₀ (c : Thread nD τ) none) Set.univ (Prog.ret a) Q
  rw [wp_ret]
  exact fupd_intro

/-- A load gives what its rectangle reads off the contents. -/
theorem load_eq {α : Type} {Q : α → sProp (MT nD τ sig Unit (Elt F) ℕ UU ℕ)} (c : Dev nD) {cs : CoreSpace} {s : Shape} {e : EltTy}
    {M : Memref sig .tc cs s e} {r : LoadRect s} {hl : M.view.LoadsAt r}
    {k : (r.shape.Idx → Elt F e) → Prog (TpuEff nD τ sig (Elt F) Λ₀ .tc) α} {S : Finset (Idx (M.view.loc (c : Thread nD τ)))} {q : PosShare TreeShare}
    {f : Buf (Elt F) (M.view.loc (c : Thread nD τ))} {g : r.shape.Idx → Elt F e} (hS : M.view.setOn r.set ⊆ S) (hg : M.view.readAt (Elt F) r f = g) :
    (M.view.loc (c : Thread nD τ) ↦[S]{q} f)
      ⊢ iprop(((M.view.loc (c : Thread nD τ) ↦[S]{q} f) -∗ WP c (k g) Q) -∗ WP c (.op (.load M r hl) k) Q) := by
  subst hg
  exact wp_load 𝒱₀ (c : Thread nD τ) none Set.univ hS

/-- A store leaves what it writes. -/
theorem store_eq {α : Type} {Q : α → sProp (MT nD τ sig Unit (Elt F) ℕ UU ℕ)} (c : Dev nD) {cs : CoreSpace} {s : Shape} {e : EltTy}
    {M : Memref sig .tc cs s e} {r : Rect s} {w : r.shape.Idx → Elt F e} {Mk : Finset r.shape.Idx} {hx : (M.access r).Stores Mk}
    {hm : Mk = Finset.univ ∨ ∀ a, r.stride a = 1} {k : PUnit → Prog (TpuEff nD τ sig (Elt F) Λ₀ .tc) α}
    {S : Finset (Idx ((M.access r).loc (c : Thread nD τ)))} {f g : Buf (Elt F) ((M.access r).loc (c : Thread nD τ))}
    (hS : (M.access r).setOn Mk ⊆ S) (hg : ∀ i ∈ S, (M.access r).write (Elt F) f w Mk i = g i) :
    ((M.access r).loc (c : Thread nD τ) ↦[S]{fullShare} f)
      ⊢ iprop((((M.access r).loc (c : Thread nD τ) ↦[S]{fullShare} g) -∗ WP c (k ⟨⟩) Q) -∗ WP c (.op (.store M r w Mk hx hm) k) Q) := by
  rw [← pointsTo_congr (f := (M.access r).write (Elt F) f w Mk) (g := g) hg]
  exact wp_store 𝒱₀ (c : Thread nD τ) none Set.univ hS

theorem zeros2 : (![0, 0] : Fin 2 → ℕ) = fun _ => 0 := by funext a; fin_cases a <;> rfl
theorem zeros3 : (![0, 0, 0] : Fin 3 → ℕ) = fun _ => 0 := by funext a; fin_cases a <;> rfl

section Starts
variable {α : Type} {Q : α → sProp (MT nD τ sig Unit (Elt F) ℕ UU ℕ)} (k : PUnit → Prog (TpuEff nD τ sig (Elt F) Λ₀ .tc) α)
    (K : Dev nD × SemLoc sig → ℕ) (c : Dev nD) (sm : DmaSem sig)

/-! The five loads start. -/

theorem start_0 (hsm : sm = semOf (.inp 0)) {hsrc : xA.view.WordExact} {hdst : xM.view.WordExact}
    {hsem : DmaTarget.Typed (nD := nD) (τ := τ) (p := .tc) .hbm (.dma sm) (.here xM)} :
    iprop(records m K ∗ inPre m c 0)
      ⊢ iprop((toCome c (.inp 0) -∗ WP c (k ⟨⟩) Q) -∗ WP c (.op (.enqueueDma xA (.here xM) (.dma sm) hsrc hdst hsem) k) Q) :=
  step_in m k K c (.inp 0) (by decide) sm hsm (src := xA) (dst := xM) rfl (vX m c) (vX m c)
    ((read_whole' main_arg0 (vX m c)).trans (read_whole' cc0_scratch0 (vX m c)).symm) (inPre m c 0) (inPre_0 m c) (inPay_0 m c)
theorem start_1 (hsm : sm = semOf (.inp 1)) {hsrc : wqA.view.WordExact} {hdst : wqM.view.WordExact}
    {hsem : DmaTarget.Typed (nD := nD) (τ := τ) (p := .tc) .hbm (.dma sm) (.here wqM)} :
    iprop(records m K ∗ inPre m c 1)
      ⊢ iprop((toCome c (.inp 1) -∗ WP c (k ⟨⟩) Q) -∗ WP c (.op (.enqueueDma wqA (.here wqM) (.dma sm) hsrc hdst hsem) k) Q) :=
  step_in m k K c (.inp 1) (by decide) sm hsm (src := wqA) (dst := wqM) rfl (vWq m c) (vWq m c)
    ((read_whole' main_arg1 (vWq m c)).trans (read_whole' cc0_scratch1 (vWq m c)).symm) (inPre m c 1) (inPre_1 m c) (inPay_1 m c)
theorem start_2 (hsm : sm = semOf (.inp 2)) {hsrc : (wkC c).view.WordExact} {hdst : wkM.view.WordExact}
    {hsem : DmaTarget.Typed (nD := nD) (τ := τ) (p := .tc) .hbm (.dma sm) (.here wkM)} :
    iprop(records m K ∗ inPre m c 2)
      ⊢ iprop((toCome c (.inp 2) -∗ WP c (k ⟨⟩) Q) -∗ WP c (.op (.enqueueDma (wkC c) (.here wkM) (.dma sm) hsrc hdst hsem) k) Q) :=
  step_in m k K c (.inp 2) (by decide) sm hsm (src := (wkC c)) (dst := wkM) rfl (m ((c : Thread nD τ).loc main_arg2)) (vWk m c)
    (read_whole' cc0_scratch3 (vWk m c)).symm (inPre m c 2) (inPre_2 m c) (inPay_2 m c)
theorem start_3 (hsm : sm = semOf (.inp 3)) {hsrc : (wvC c).view.WordExact} {hdst : wvM.view.WordExact}
    {hsem : DmaTarget.Typed (nD := nD) (τ := τ) (p := .tc) .hbm (.dma sm) (.here wvM)} :
    iprop(records m K ∗ inPre m c 3)
      ⊢ iprop((toCome c (.inp 3) -∗ WP c (k ⟨⟩) Q) -∗ WP c (.op (.enqueueDma (wvC c) (.here wvM) (.dma sm) hsrc hdst hsem) k) Q) :=
  step_in m k K c (.inp 3) (by decide) sm hsm (src := (wvC c)) (dst := wvM) rfl (m ((c : Thread nD τ).loc main_arg3)) (vWv m c)
    (read_whole' cc0_scratch4 (vWv m c)).symm (inPre m c 3) (inPre_3 m c) (inPay_3 m c)
theorem start_4 (hsm : sm = semOf (.inp 4)) {hsrc : woA.view.WordExact} {hdst : woM.view.WordExact}
    {hsem : DmaTarget.Typed (nD := nD) (τ := τ) (p := .tc) .hbm (.dma sm) (.here woM)} :
    iprop(records m K ∗ inPre m c 4)
      ⊢ iprop((toCome c (.inp 4) -∗ WP c (k ⟨⟩) Q) -∗ WP c (.op (.enqueueDma woA (.here woM) (.dma sm) hsrc hdst hsem) k) Q) :=
  step_in m k K c (.inp 4) (by decide) sm hsm (src := woA) (dst := woM) rfl (vWo m c) (vWo m c)
    ((read_whole' main_arg4 (vWo m c)).trans (read_whole' cc0_scratch2 (vWo m c)).symm) (inPre m c 4) (inPre_4 m c) (inPay_4 m c)

end Starts

variable (K : Dev nD × SemLoc sig → ℕ) (c : Dev nD)

set_option maxRecDepth 4000 in
/-- Part 1: the five loads start, the first two peers are signalled. -/
theorem part1 (Q : (Σ' (d0 : Dev nD) (v2 : BitVec 32) (v19 : Sems sig S_), BitVec 32) → sProp (MT nD τ sig Unit (Elt F) ℕ UU ℕ)) :
    iprop(records m K ∗ Ow c (owed0 c) ∗ (inPre m c 0 ∗ inPre m c 1 ∗ inPre m c 2 ∗ inPre m c 3 ∗ inPre m c 4) ∗ sigPre c 0 ∗ sigPre c 1)
      ⊢ iprop((∀ v2 : BitVec 32, (Ow c (debtB c 2 :: owed1 c) ∗ toCome c (.inp 0) ∗ toCome c (.inp 1) ∗ toCome c (.inp 2) ∗ toCome c (.inp 3) ∗ toCome c (.inp 4))
            -∗ Q ⟨c, v2, SemArray.scalar (sig.barrier 0 rfl), 3#32⟩)
          -∗ WP c (run1 (F := F)) Q) := by
  unfold run1
  simp only [k0_part1_eq_skeleton]; unfold k0_part1_skel
  simp only [semSignalWord, semWaitWord, Prog.lift, Prog.bind_op, Prog.bind_ret, Prog.pure_eq_ret, wp_deviceId]
  iintro ⟨#HR, HO, ⟨Hi0, Hi1, Hi2, Hi3, Hi4⟩, Hs0, Hs1⟩ Hk
  iapply (start_0 m _ K c _ rfl) $$ [Hi0]
  · isplitr; · iexact HR
    iexact Hi0
  iintro Hi0
  iapply (start_1 m _ K c _ rfl) $$ [Hi1]
  · isplitr; · iexact HR
    iexact Hi1
  iintro Hi1
  iapply (start_2 m _ K c _ rfl) $$ [Hi2]
  · isplitr; · iexact HR
    iexact Hi2
  iintro Hi2
  iapply (start_3 m _ K c _ rfl) $$ [Hi3]
  · isplitr; · iexact HR
    iexact Hi3
  iintro Hi3
  iapply (start_4 m _ K c _ rfl) $$ [Hi4]
  · isplitr; · iexact HR
    iexact Hi4
  iintro Hi4
  unfold sigPre owed0
  icases Hs0 with ⟨Ht, Hf, Hg⟩
  iapply (step_signal m _ K c 0 _ (dev1_eq c) _ rfl _ rfl _) $$ [HO Ht Hf Hg]
  · isplitr; · iexact HR
    isplitl [HO]; · iexact HO
    isplitl [Ht]; · iexact Ht
    isplitl [Hf] <;> iassumption
  iintro HO
  icases Hs1 with ⟨Ht, Hf, Hg⟩
  iapply (step_signal m _ K c 1 _ (dev2_eq c) _ rfl _ rfl _) $$ [HO Ht Hf Hg]
  · isplitr; · iexact HR
    isplitl [HO]; · iexact HO
    isplitl [Ht]; · iexact Ht
    isplitl [Hf] <;> iassumption
  iintro HO
  iapply (wp_done c)
  iapply Hk
  isplitl [HO]; · iexact HO
  isplitl [Hi0]; · iexact Hi0
  isplitl [Hi1]; · iexact Hi1
  isplitl [Hi2]; · iexact Hi2
  isplitl [Hi3] <;> iassumption

/-- A load's end, for a wait that names it. -/
theorem came_in (i : Fin 5) : came m c (.inp i) = iprop(inPay m c i ∗ semVal (cel c (.inp i)) 0) := rfl

set_option maxRecDepth 4000 in
/-- Part 2: the third peer is signalled, the three peers' signals and the first four loads are waited for; the projections
    of the loaded arrays come out. -/
theorem part2 (v2 : BitVec 32) (Q : (Σ' (v39 : FVec F S256x512 .f32) (v47 : FVec F S256x128 .f32) (v49 : FVec F S256x128 .f32) (v54 : FVec F S512x64 .f32) (v55 : FVec F S128x64 .f32) (v56 : FVec F S128x64 .f32), FVec F S512x128 .f32) → sProp (MT nD τ sig Unit (Elt F) ℕ UU ℕ)) :
    iprop(records m K ∗ Ow c (debtB c 2 :: owed1 c) ∗ sigPre c 2 ∗ cred (tallyAt (barC c) () 3) ∗ atPos ER (barC c) 0 ∅ 0
        ∗ (toCome c (.inp 0) ∗ toCome c (.inp 1) ∗ toCome c (.inp 2) ∗ toCome c (.inp 3))
        ∗ (atStart c (.inp 0) ∗ atStart c (.inp 1) ∗ atStart c (.inp 2) ∗ atStart c (.inp 3)))
      ⊢ iprop(((Ow c (owed1 c) ∗ bigSep Finset.univ (barPay (F := F) c) ∗ semVal (barC c) 0
              ∗ came m c (.inp 0) ∗ came m c (.inp 1) ∗ came m c (.inp 2) ∗ came m c (.inp 3))
            -∗ Q ⟨k0_pay2 (vX m c) (vWq m c), k0_pay3 (vX m c) (vWk m c), k0_pay4 (vX m c) (vWv m c), k0_pay5 (vX m c) (vWq m c),
                k0_pay6 (vX m c) (vWk m c), k0_pay7 (vX m c) (vWv m c), constant S512x128 .f32 0x00000000#32⟩)
          -∗ WP c (run2 (F := F) c v2 (SemArray.scalar (sig.barrier 0 rfl)) 3#32) Q) := by
  unfold run2
  simp only [k0_part2_eq_skeleton]; unfold k0_part2_skel
  simp only [semSignalWord, semWaitWord, Prog.lift, Prog.bind_op, Prog.bind_ret, Prog.pure_eq_ret, wp_deviceId]
  unfold sigPre
  iintro ⟨#HR, HO, ⟨Ht, Hf, Hg⟩, HcB, HaB, ⟨Hc0, Hc1, Hc2, Hc3⟩, ⟨Ha0, Ha1, Ha2, Ha3⟩⟩ Hk
  iapply (step_signal m _ K c 2 _ (dev3_eq c) _ rfl _ rfl _) $$ [HO Ht Hf Hg]
  · isplitr; · iexact HR
    isplitl [HO]; · iexact HO
    isplitl [Ht]; · iexact Ht
    isplitl [Hf] <;> iassumption
  iintro HO
  iapply (step_barrier m _ K c _ rfl _ rfl _ (above1 c _ (by decide))) $$ [HO HcB HaB]
  · isplitr; · iexact HR
    isplitl [HO]; · iexact HO
    isplitl [HcB] <;> iassumption
  iintro ⟨HO, Hb, HzB⟩
  iapply (step_wait' m _ K c (.inp 0) (by decide) _ rfl rfl _ (above1 c _ (by decide))) $$ [HO Hc0 Ha0]
  · isplitr; · iexact HR
    isplitl [HO]; · iexact HO
    isplitl [Hc0] <;> iassumption
  iintro ⟨HO, H0⟩
  iapply (step_wait' m _ K c (.inp 1) (by decide) _ rfl rfl _ (above1 c _ (by decide))) $$ [HO Hc1 Ha1]
  · isplitr; · iexact HR
    isplitl [HO]; · iexact HO
    isplitl [Hc1] <;> iassumption
  iintro ⟨HO, H1⟩
  ihave H0 := (Entails.of_eq (came_in m c 0)) $$ H0
  ihave H1 := (Entails.of_eq (came_in m c 1)) $$ H1
  dsimp only [inPay]
  icases H0 with ⟨⟨Hv0, Hw0⟩, Hz0⟩
  icases H1 with ⟨⟨Hv1, Hw1⟩, Hz1⟩
  iapply (load_eq c (M := xM) (f := vX m c) (Finset.subset_univ _) (Memref.readAt_unit_zero (Elt F) cc0_scratch0 zeros3 _ (vX m c))) $$ Hv0; iintro Hv0
  iapply (load_eq c (M := wqM) (f := vWq m c) (Finset.subset_univ _) (Memref.readAt_unit_zero (Elt F) cc0_scratch1 zeros2 _ (vWq m c))) $$ Hv1; iintro Hv1
  iapply (step_wait' m _ K c (.inp 2) (by decide) _ rfl rfl _ (above1 c _ (by decide))) $$ [HO Hc2 Ha2]
  · isplitr; · iexact HR
    isplitl [HO]; · iexact HO
    isplitl [Hc2] <;> iassumption
  iintro ⟨HO, H2⟩
  iapply (step_wait' m _ K c (.inp 3) (by decide) _ rfl rfl _ (above1 c _ (by decide))) $$ [HO Hc3 Ha3]
  · isplitr; · iexact HR
    isplitl [HO]; · iexact HO
    isplitl [Hc3] <;> iassumption
  iintro ⟨HO, H3⟩
  ihave H2 := (Entails.of_eq (came_in m c 2)) $$ H2
  ihave H3 := (Entails.of_eq (came_in m c 3)) $$ H3
  dsimp only [inPay]
  icases H2 with ⟨⟨Hv2, Hw2⟩, Hz2⟩
  icases H3 with ⟨⟨Hv3, Hw3⟩, Hz3⟩
  iapply (load_eq c (M := wkM) (f := vWk m c) (Finset.subset_univ _) (Memref.readAt_unit_zero (Elt F) cc0_scratch3 zeros2 _ (vWk m c))) $$ Hv2; iintro Hv2
  iapply (load_eq c (M := wvM) (f := vWv m c) (Finset.subset_univ _) (Memref.readAt_unit_zero (Elt F) cc0_scratch4 zeros2 _ (vWv m c))) $$ Hv3; iintro Hv3
  iapply (wp_done c)
  iapply Hk
  simp only [came_in, inPay]
  isplitl [HO]; · iexact HO
  isplitl [Hb]; · iexact Hb
  isplitl [HzB]; · iexact HzB
  isplitl [Hv0 Hw0 Hz0]
  · isplitr [Hz0]; · isplitl [Hv0] <;> iassumption
    iexact Hz0
  isplitl [Hv1 Hw1 Hz1]
  · isplitr [Hz1]; · isplitl [Hv1] <;> iassumption
    iexact Hz1
  isplitl [Hv2 Hw2 Hz2]
  · isplitr [Hz2]; · isplitl [Hv2] <;> iassumption
    iexact Hz2
  isplitr [Hz3]; · isplitl [Hv3] <;> iassumption
  iexact Hz3

/-- Part 3 only computes. -/
theorem part3 (v39 : FVec F S256x512 .f32) (v47 v49 : FVec F S256x128 .f32) (v54 : FVec F S512x64 .f32) (v55 v56 : FVec F S128x64 .f32) (z : FVec F S512x128 .f32)
    (Q : (Σ' (v70 : FVec F S128x64 .f32) (v71 : FVec F S128x64 .f32) (v72 : FVec F S128x64 .f32) (v73 : FVec F S128x64 .f32) (v94 : FVec F S128x64 .f32) (v95 : FVec F S128x64 .f32) (v96 : FVec F S128x64 .f32) (v97 : FVec F S128x64 .f32) (v104 : FVec F S128x64 .f32) (v105 : FVec F S512x128 .f32), F .f32) → sProp (MT nD τ sig Unit (Elt F) ℕ UU ℕ)) :
    Q ⟨k0_pay9 v54 v55 v56 z, k0_pay10 v54 v55 v56 z, k0_pay11 v54 v55 v56 z, k0_pay12 v54 v55 v56 z,
        k0_pay14 v39 v47 v49, k0_pay15 v39 v47 v49, k0_pay16 v39 v47 v49, k0_pay17 v39 v47 v49, k0_pay18 v49, k0_pay19 v39 v47, Scalar.ofBits .f32 0x3E000000#32⟩
      ⊢ WP c (run3 (F := F) v39 v47 v49 v54 v55 v56 z) Q := by
  unfold run3
  simp only [k0_part3_eq_skeleton]; unfold k0_part3_skel
  simp only [Prog.pure_eq_ret]
  exact wp_done c

set_option maxRecDepth 4000 in
/-- Part 4: the last load is waited for and the partial product computed. -/
theorem part4 (v39 : FVec F S256x512 .f32) (v47 v49 : FVec F S256x128 .f32) (v70 v71 v72 v73 v94 v95 v96 v97 v104 : FVec F S128x64 .f32) (v105 : FVec F S512x128 .f32) (z : F .f32)
    (Q : FVec F S256x512 .f32 → sProp (MT nD τ sig Unit (Elt F) ℕ UU ℕ)) :
    iprop(records m K ∗ Ow c (owed1 c) ∗ toCome c (.inp 4) ∗ atStart c (.inp 4))
      ⊢ iprop(((Ow c (owed1 c) ∗ came m c (.inp 4)) -∗ Q (k0_pay20 v39 v47 v49 v70 v71 v72 v73 v94 v95 v96 v97 v104 v105 z (vWo m c)))
          -∗ WP c (run4 (F := F) v39 v47 v49 v70 v71 v72 v73 v94 v95 v96 v97 v104 v105 z) Q) := by
  unfold run4
  simp only [k0_part4_eq_skeleton]; unfold k0_part4_skel
  simp only [Prog.lift, Prog.bind_op, Prog.bind_ret, Prog.pure_eq_ret]
  iintro ⟨#HR, HO, Hc, Ha⟩ Hk
  iapply (step_wait' m _ K c (.inp 4) (by decide) _ rfl rfl _ (above1 c _ (by decide))) $$ [HO Hc Ha]
  · isplitr; · iexact HR
    isplitl [HO]; · iexact HO
    isplitl [Hc] <;> iassumption
  iintro ⟨HO, H⟩
  ihave H := (Entails.of_eq (came_in m c 4)) $$ H
  dsimp only [inPay]
  icases H with ⟨⟨Hv, Hw⟩, Hz⟩
  iapply (load_eq c (M := woM) (f := vWo m c) (Finset.subset_univ _) (Memref.readAt_unit_zero (Elt F) cc0_scratch2 zeros2 _ (vWo m c))) $$ Hv; iintro Hv
  iapply (wp_done c)
  iapply Hk
  simp only [came_in, inPay]
  isplitl [HO]; · iexact HO
  isplitr [Hz]; · isplitl [Hv] <;> iassumption
  iexact Hz

end Cert.KernelIdealProof

end
-- ==== Proof.KernIdeal.Exch.lean ====
/-
# The body's second half: the two exchanges

The fifth and sixth parts store the partial product, send each peer its chunk of it and put the own chunk in slot 0; the
seventh sums the four chunks once the peers' have landed; the eighth and ninth send the summed chunk to the three peers,
copy it into the own result and wait for the peers' chunks and for the departures.
-/
module

public import proofs.«01_k».proof.Proof.KernIdeal.Loads
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The body's later parts, on the kernel's arrays and semaphores. -/
abbrev run5 := k0_part5 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13
abbrev run6 := k0_part6 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13
abbrev run7 := k0_part7 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13
abbrev run8 := k0_part8 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13
abbrev run9 := k0_part9 (F := F) xA (Memref.isWhole_whole _) wqA (Memref.isWhole_whole _) woA (Memref.isWhole_whole _) wkA (Memref.isWhole_whole _) wvA (Memref.isWhole_whole _) oA (Memref.isWhole_whole _) xM (Memref.isWhole_whole _) wqM (Memref.isWhole_whole _) woM (Memref.isWhole_whole _) wkM (Memref.isWhole_whole _) wvM (Memref.isWhole_whole _) pM (Memref.isWhole_whole _) rsM (Memref.isWhole_whole _) redM (Memref.isWhole_whole _) cc0_scratch8 cc0_scratch9 cc0_scratch10 cc0_scratch11 cc0_scratch12 cc0_scratch13

/-! ## Cutting and joining -/

/-- Four things per device are the own one and one per peer. -/
theorem bigSep_pl (c : Dev nD) (Φ : Dev nD → sProp (MT nD τ sig Unit (Elt F) ℕ UU ℕ)) :
    bigSep Finset.univ Φ = iprop(Φ c ∗ Φ (pl c 0) ∗ Φ (pl c 1) ∗ Φ (pl c 2)) := by
  have h01 : pl c 0 ≠ pl c 1 := fun h => absurd (pl_inj c 0 1 h) (by decide)
  have h02 : pl c 0 ≠ pl c 2 := fun h => absurd (pl_inj c 0 2 h) (by decide)
  have h12 : pl c 1 ≠ pl c 2 := fun h => absurd (pl_inj c 1 2 h) (by decide)
  rw [univ_pl c, bigSep_insert (by simp [(pl_ne c 0).symm, (pl_ne c 1).symm, (pl_ne c 2).symm]), bigSep_insert (by simp [h01, h02]),
    bigSep_insert (by simp [h12]), bigSep_singleton]
  rfl

/-- The partial product is its four chunks, -/
theorem cut_p (c : Dev nD) (f : Buf (Elt F) ((c : Thread nD τ).loc cc0_scratch5)) :
    (hold c cc0_scratch5 f : sProp 𝕄) = iprop(holdOn c cc0_scratch5 (pSet c) f ∗ holdOn c cc0_scratch5 (pSet (pl c 0)) f
      ∗ holdOn c cc0_scratch5 (pSet (pl c 1)) f ∗ holdOn c cc0_scratch5 (pSet (pl c 2)) f) := by
  have h : (hold c cc0_scratch5 f : sProp 𝕄) = bigSep Finset.univ fun e => holdOn c cc0_scratch5 (pSet e) f :=
    Ring.pointsTo_blocks (ℓ := (c : Thread nD τ).loc cc0_scratch5) pSet (fun _ _ h => pSet_disjoint h) pSet_cover f
  rw [h, bigSep_pl c]
/-- and so is the result. -/
theorem cut_o (c d : Dev nD) (f : Buf (Elt F) ((c : Thread nD τ).loc main_v1)) :
    (hold c main_v1 f : sProp 𝕄) = iprop(holdOn c main_v1 (oSet d) f ∗ holdOn c main_v1 (oSet (pl d 0)) f
      ∗ holdOn c main_v1 (oSet (pl d 1)) f ∗ holdOn c main_v1 (oSet (pl d 2)) f) := by
  have h : (hold c main_v1 f : sProp 𝕄) = bigSep Finset.univ fun e => holdOn c main_v1 (oSet e) f :=
    Ring.pointsTo_blocks (ℓ := (c : Thread nD τ).loc main_v1) oSet (fun _ _ h => oSet_disjoint h) oSet_cover f
  rw [h, bigSep_pl d]
/-- The landing buffer is its four slots. -/
theorem cut_rs (c : Dev nD) (f : Buf (Elt F) ((c : Thread nD τ).loc cc0_scratch6)) :
    (hold c cc0_scratch6 f : sProp 𝕄) = iprop(holdOn c cc0_scratch6 (rsSet 0) f ∗ holdOn c cc0_scratch6 (rsSet 1) f
      ∗ holdOn c cc0_scratch6 (rsSet 2) f ∗ holdOn c cc0_scratch6 (rsSet 3) f) := by
  have h : (hold c cc0_scratch6 f : sProp 𝕄) = bigSep Finset.univ fun s => holdOn c cc0_scratch6 (rsSet s) f :=
    Ring.pointsTo_blocks (ℓ := (c : Thread nD τ).loc cc0_scratch6) rsSet (fun _ _ h => rsSet_disjoint h) rsSet_cover f
  rw [h, bigSep_univ_eq_bigSepL ([0, 1, 2, 3] : List (Fin 4)) (by decide) (by decide)]
  rfl

/-- The summed chunk is lent out in four parts. -/
theorem lend (c : Dev nD) :
    (hold c cc0_scratch7 (vRed m c) : sProp 𝕄) ⊣⊢ iprop((redPart m c 0 ∗ redPart m c 1) ∗ redPart m c 2 ∗ redPart m c 3) := by
  unfold redPart
  constructor
  · iintro H
    ihave H := (pointsTo_share (PosShare.mem_left_op_right fullShare)).1 $$ H
    icases H with ⟨Hl, Hr⟩
    ihave Hl := (pointsTo_share (PosShare.mem_left_op_right fullShare.left)).1 $$ Hl
    ihave Hr := (pointsTo_share (PosShare.mem_left_op_right fullShare.right)).1 $$ Hr
    isplitl [Hl]; · iexact Hl
    iexact Hr
  · iintro ⟨Hl, Hr⟩
    iapply (pointsTo_share (PosShare.mem_left_op_right fullShare)).2
    isplitl [Hl]
    · iapply (pointsTo_share (PosShare.mem_left_op_right fullShare.left)).2; iexact Hl
    · iapply (pointsTo_share (PosShare.mem_left_op_right fullShare.right)).2; iexact Hr

/-! ## What the exchanges need -/

/-- The peer's slot that device `c` writes, and the peer's chunk of the result. -/
def slotFor (c : Dev nD) (k : Fin 3) : sProp 𝕄 := iprop(∃ f, holdOn (pl c k) cc0_scratch6 (rsSet k.succ) f)
def chunkFor (c : Dev nD) (k : Fin 3) : sProp 𝕄 := iprop(∃ f, holdOn (pl c k) main_v1 (oSet c) f)
/-- The rights to promise a send's departure and its arrival at the peer, in the first and in the second exchange. -/
def toksR (c : Dev nD) (k : Fin 3) : sProp 𝕄 := iprop(dutyTok ER (cel c (.rsS k)) 0 0 ∗ dutyTok ER (cel (pl c k) (.rsR k)) 0 0)
def toksA (c : Dev nD) (k : Fin 3) : sProp 𝕄 := iprop(dutyTok ER (cel c (.agS k)) 0 0 ∗ dutyTok ER (cel (pl c k) (.agR k)) 0 0)

/-- Nothing owed is above anything. -/
theorem above0 (c : Dev nD) (s : SemLoc sig) : ∀ p ∈ ([] : List (GSem nD τ sig × ℕ)), p.1.1.2 = .tc ∧ lvS s < lvS p.1.2 :=
  fun p hp => absurd hp List.not_mem_nil

section Sends
variable {α : Type} {Q : α → sProp (MT nD τ sig Unit (Elt F) ℕ UU ℕ)} (k' : PUnit → Prog (TpuEff nD τ sig (Elt F) Λ₀ .tc) α)
    (K : Dev nD × SemLoc sig → ℕ) (c : Dev nD) (k : Fin 3) (n : Dev nD) (hn : n = pl c k) (sm sm' : DmaSem sig)

include hn in
/-- A send of the first exchange starts. -/
theorem send_rs (hsm : sm = semOf (.rsS k)) (hsm' : sm' = semOf (.rsR k)) (l : List (GSem nD τ sig × ℕ))
    {hsc : (slotM k.succ).view.ref.isScScratch = false} {hsrc : (pC c k).view.WordExact} {hdst : (slotM k.succ).view.WordExact}
    {hsem : DmaTarget.Typed (nD := nD) (τ := τ) (p := .tc) .vmem (.dma sm') (.remote (Dev.tc n : Thread nD τ) (slotM k.succ) (.dma sm) hsc)} :
    iprop(records m K ∗ holdOn c cc0_scratch5 (pSet (pl c k)) (vP m c) ∗ slotFor c k ∗ Ow c (debtR c k :: l) ∗ toksR c k)
      ⊢ iprop(((toCome c (.rsS k) ∗ Ow c l) -∗ WP c (k' ⟨⟩) Q)
          -∗ WP c (.op (.enqueueDma (pC c k) (.remote (Dev.tc n : Thread nD τ) (slotM k.succ) (.dma sm) hsc) (.dma sm') hsrc hdst hsem) k') Q) := by
  have h := step_send m k' K c (.rsS k) (.rsR k) (by simp) (by simp) (pl c k) n hn sm sm' hsm hsm' (src := pC c k) (dst := slotM k.succ)
    (hsc := hsc) (hsrc := hsrc) (hdst := hdst) (hsem := hsem) rfl rfl fullShare (vP m c) (vRs m (pl c k)) (slot_landing m c k)
    (Q := Q) (Entails.of_eq (by unfold at_; rw [pC_set]; rfl)) (Entails.of_eq (by unfold at_; rw [slotM_set]; rfl)) l
  refine BIBase.Entails.trans ?_ h
  unfold slotFor toksR
  refine sep_mono_right (BIClass.sep_mono (Entails.of_eq ?_) (sep_mono_left (exists_mono fun f => Entails.of_eq ?_)))
  · unfold at_; rw [pC_set]
  · unfold at_; rw [slotM_set]

include hn in
/-- A send of the second exchange starts. -/
theorem send_ag (hsm : sm = semOf (.agS k)) (hsm' : sm' = semOf (.agR k)) (l : List (GSem nD τ sig × ℕ))
    {hsc : (oC c).view.ref.isScScratch = false} {hsrc : redM.view.WordExact} {hdst : (oC c).view.WordExact}
    {hsem : DmaTarget.Typed (nD := nD) (τ := τ) (p := .tc) .vmem (.dma sm') (.remote (Dev.tc n : Thread nD τ) (oC c) (.dma sm) hsc)} :
    iprop(records m K ∗ redPart m c k.succ ∗ chunkFor c k ∗ Ow c (debtA c k :: l) ∗ toksA c k)
      ⊢ iprop(((toCome c (.agS k) ∗ Ow c l) -∗ WP c (k' ⟨⟩) Q)
          -∗ WP c (.op (.enqueueDma redM (.remote (Dev.tc n : Thread nD τ) (oC c) (.dma sm) hsc) (.dma sm') hsrc hdst hsem) k') Q) := by
  have h := step_send m k' K c (.agS k) (.agR k) (by simp) (by simp) (pl c k) n hn sm sm' hsm hsm' (src := redM) (dst := oC c)
    (hsc := hsc) (hsrc := hsrc) (hdst := hdst) (hsem := hsem) rfl rfl (part k.succ) (vRed m c) (vOut m)
    ((read_whole' cc0_scratch7 (vRed m c)).trans (oC_read m c).symm)
    (Q := Q) (Entails.of_eq (at_whole c cc0_scratch7 (part k.succ) (vRed m c))) (Entails.of_eq (by
      unfold at_; rw [oC_set]; show _ = holdOn (pl c k) main_v1 (oSet (pl (pl c k) k.rev)) (vOut m); rw [pl_pl_rev])) l
  refine BIBase.Entails.trans ?_ h
  unfold chunkFor toksA redPart
  refine sep_mono_right (BIClass.sep_mono (Entails.of_eq (at_whole c cc0_scratch7 (part k.succ) (vRed m c)).symm) (sep_mono_left (exists_mono fun f => Entails.of_eq ?_)))
  unfold at_; rw [oC_set]

end Sends

/-- The copy into the own result starts. -/
theorem start_out {α : Type} {Q : α → sProp (MT nD τ sig Unit (Elt F) ℕ UU ℕ)} (k' : PUnit → Prog (TpuEff nD τ sig (Elt F) Λ₀ .tc) α)
    (K : Dev nD × SemLoc sig → ℕ) (c : Dev nD) (sm : DmaSem sig) (hsm : sm = semOf .out)
    {hsrc : redM.view.WordExact} {hdst : (oC c).view.WordExact}
    {hsem : DmaTarget.Typed (nD := nD) (τ := τ) (p := .tc) .vmem (.dma sm) (.here (oC c))} :
    iprop(records m K ∗ redPart m c 0 ∗ (∃ f, holdOn c main_v1 (oSet c) f) ∗ dutyTok ER (cel c .out) 0 0)
      ⊢ iprop((toCome c .out -∗ WP c (k' ⟨⟩) Q) -∗ WP c (.op (.enqueueDma redM (.here (oC c)) (.dma sm) hsrc hdst hsem) k') Q) := by
  have h := step_copy m k' K c .out (by decide) sm hsm (src := redM) (dst := oC c) (hsrc := hsrc) (hdst := hdst) (hsem := hsem) rfl (part 0)
    (vRed m c) (vOut m) ((read_whole' cc0_scratch7 (vRed m c)).trans (oC_read m c).symm) (Q := Q)
    (BIClass.sep_mono (Entails.of_eq (by unfold at_; rw [oC_set])) (Entails.of_eq (at_whole c cc0_scratch7 (part 0) (vRed m c))))
  refine BIBase.Entails.trans ?_ h
  unfold redPart
  refine sep_mono_right (BIClass.sep_mono (Entails.of_eq (at_whole c cc0_scratch7 (part 0) (vRed m c)).symm) (sep_mono_left (exists_mono fun f => Entails.of_eq ?_)))
  unfold at_; rw [oC_set]

/-! ## Loads and stores of a chunk -/

/-- The elements a rectangle of a whole array reads. -/
theorem setOn_whole (b : Ref sig .tc) (r : Rect b.ty.shape) : (Memref.whole b).view.setOn r.toLoadRect.set = r.toLoadRect.set := by
  ext i
  simp only [View.setOn, Finset.mem_map]
  exact ⟨fun ⟨x, hx, e⟩ => e ▸ hx, fun hx => ⟨i, hx, rfl⟩⟩

/-- The rectangle of a slot, and its elements. -/
abbrev slotR (s : Fin 4) : Rect S4x64x512 := Rect.unit (s := S4x64x512) ![s.val, 0, 0] S1x64x512.size (slot_inb s)
theorem slot_sub (s : Fin 4) : rsM.view.setOn (slotR s).toLoadRect.set ⊆ rsSet s := by
  rw [setOn_whole cc0_scratch6 (slotR s)]
  exact (rect_rsSet s _).le

variable (K : Dev nD × SemLoc sig → ℕ) (c : Dev nD)

/-- The own chunk stored in slot 0 is what the slot is to hold. -/
theorem landed_slot (f : Buf (Elt F) ((c : Thread nD τ).loc cc0_scratch6)) : ∀ i ∈ rsSet 0,
    (slotV 0).view.write (Elt F) f (k0_pay22 (pM.view.readAt (Elt F) (Rect.unit (s := S256x512) (k0_off3 c) S64x512.size (k0_off3_inb c)).toLoadRect (vP m c))) Finset.univ i
      = (vRs m c) i := by
  rw [own_slot, ← slotV_read m c 0, ← slotV_set 0]
  exact landed_on (c := c) (slotV 0) f (vRs m c) _ rfl

/-- The partial product and the summed chunk are stored whole. -/
theorem stored_p (f : Buf (Elt F) ((c : Thread nD τ).loc cc0_scratch5)) (w : Vec F S256x512 .f32) (hw : w = vP m c) :
    ∀ i ∈ (Finset.univ : Finset S256x512.Idx), (pM.access (Rect.unit (s := S256x512) ![0, 0] S256x512.size inb_S256x512_S256x512_0_0)).write (Elt F) f w Finset.univ i = vP m c i :=
  fun i _ => congrFun ((Memref.write_access_unit_zero_univ (Elt F) cc0_scratch5 zeros2 _ f w).trans hw) i
theorem stored_red (f : Buf (Elt F) ((c : Thread nD τ).loc cc0_scratch7)) :
    ∀ i ∈ (Finset.univ : Finset S1x64x512.Idx), (redM.access (Rect.unit (s := S1x64x512) ![0, 0, 0] S1x64x512.size inb_S1x64x512_S1x64x512_0_0_0)).write (Elt F) f (vRed m c) Finset.univ i = vRed m c i :=
  fun i _ => congrFun (Memref.write_access_unit_zero_univ (Elt F) cc0_scratch7 zeros3 _ f (vRed m c)) i

/-- A chunk that arrived in the first exchange. -/
theorem came_rsR (k : Fin 3) : came m c (.rsR k) = iprop(holdOn c cc0_scratch6 (rsSet k.succ) (vRs m c) ∗ semVal (cel c (.rsR k)) 0) := rfl

set_option maxRecDepth 4000 in
/-- Part 5: the partial product is stored; its chunks for the first two peers leave. -/
theorem part5 (v2 : BitVec 32) (v152 : FVec F S256x512 .f32) (hv : k0_pay21 v152 = vP m c)
    (Q : (Σ' (v157 : BitVec 32) (v169 : BitVec 32), BitVec 32) → sProp (MT nD τ sig Unit (Elt F) ℕ UU ℕ)) :
    iprop(records m K ∗ Ow c (owed1 c) ∗ (∃ f, hold c cc0_scratch5 f) ∗ (slotFor c 0 ∗ slotFor c 1) ∗ (toksR c 0 ∗ toksR c 1))
      ⊢ iprop((∀ a : BitVec 32, ∀ b : BitVec 32, ∀ d : BitVec 32, (Ow c (debtR c 2 :: owed2 c) ∗ toCome c (.rsS 0) ∗ toCome c (.rsS 1)
              ∗ holdOn c cc0_scratch5 (pSet (pl c 2)) (vP m c) ∗ holdOn c cc0_scratch5 (pSet c) (vP m c)) -∗ Q ⟨a, b, d⟩)
          -∗ WP c (run5 (F := F) c v2 v152) Q) := by
  unfold run5
  simp only [k0_part5_eq_skeleton]; unfold k0_part5_skel
  simp only [Prog.lift, Prog.bind_op, Prog.bind_ret, Prog.pure_eq_ret]
  unfold owed1
  iintro ⟨#HR, HO, ⟨%f, Hp⟩, ⟨Hs0, Hs1⟩, ⟨Ht0, Ht1⟩⟩ Hk
  iapply (load_eq c (M := pM) (f := f) (Finset.subset_univ _) rfl) $$ Hp; iintro Hp
  iapply (store_eq c (M := pM) (r := Rect.unit (s := S256x512) ![0, 0] S256x512.size inb_S256x512_S256x512_0_0) (f := f) (g := vP m c) (Finset.subset_univ _) (stored_p m c f _ hv)) $$ Hp; iintro Hp
  ihave Hp := (Entails.of_eq (cut_p c (vP m c))) $$ Hp
  icases Hp with ⟨Hp, Hp0, Hp1, Hp2⟩
  iapply (send_rs m _ K c 0 _ (dev4_eq c) _ _ rfl rfl _) $$ [HO Hp0 Hs0 Ht0]
  · isplitr; · iexact HR
    isplitl [Hp0]; · iexact Hp0
    isplitl [Hs0]; · iexact Hs0
    isplitl [HO] <;> iassumption
  iintro ⟨Hc0, HO⟩
  iapply (send_rs m _ K c 1 _ (dev5_eq c) _ _ rfl rfl _) $$ [HO Hp1 Hs1 Ht1]
  · isplitr; · iexact HR
    isplitl [Hp1]; · iexact Hp1
    isplitl [Hs1]; · iexact Hs1
    isplitl [HO] <;> iassumption
  iintro ⟨Hc1, HO⟩
  iapply (wp_done c)
  iapply Hk
  isplitl [HO]; · iexact HO
  isplitl [Hc0]; · iexact Hc0
  isplitl [Hc1]; · iexact Hc1
  isplitl [Hp2] <;> iassumption

set_option maxRecDepth 4000 in
/-- Part 6: the chunk for the third peer leaves; the own chunk is put in slot 0; the first peer's chunk has landed. -/
theorem part6 (v2 a b d : BitVec 32) (Q : PUnit → sProp (MT nD τ sig Unit (Elt F) ℕ UU ℕ)) :
    iprop(records m K ∗ Ow c (debtR c 2 :: owed2 c) ∗ holdOn c cc0_scratch5 (pSet (pl c 2)) (vP m c) ∗ slotFor c 2 ∗ toksR c 2
        ∗ holdOn c cc0_scratch5 (pSet c) (vP m c) ∗ (∃ f, holdOn c cc0_scratch6 (rsSet 0) f) ∗ toCome c (.rsR 0) ∗ atStart c (.rsR 0))
      ⊢ iprop(((Ow c (owed2 c) ∗ toCome c (.rsS 2) ∗ holdOn c cc0_scratch5 (pSet c) (vP m c) ∗ holdOn c cc0_scratch6 (rsSet 0) (vRs m c)
              ∗ came m c (.rsR 0)) -∗ Q ⟨⟩)
          -∗ WP c (run6 (F := F) c v2 a b d) Q) := by
  unfold run6
  simp only [k0_part6_eq_skeleton]; unfold k0_part6_skel
  simp only [Prog.lift, Prog.bind_op, Prog.bind_ret, Prog.pure_eq_ret]
  iintro ⟨#HR, HO, Hp2, Hs2, Ht2, Hp, ⟨%f, Hs⟩, Hc, Ha⟩ Hk
  iapply (send_rs m _ K c 2 _ (dev6_eq c) _ _ rfl rfl _) $$ [HO Hp2 Hs2 Ht2]
  · isplitr; · iexact HR
    isplitl [Hp2]; · iexact Hp2
    isplitl [Hs2]; · iexact Hs2
    isplitl [HO] <;> iassumption
  iintro ⟨Hc2, HO⟩
  iapply (load_eq c (M := pM) (f := vP m c) (S := pSet c) (by
    rw [setOn_whole cc0_scratch5]; exact (rect_pSet c _ (k0_off3_eq c) (k0_off3_inb c)).le) rfl) $$ Hp; iintro Hp
  iapply (load_eq c (M := rsM) (f := f) (r := (slotR 0).toLoadRect) (S := rsSet 0) (slot_sub 0) rfl) $$ Hs; iintro Hs
  iapply (store_eq c (M := rsM) (r := Rect.unit (s := S4x64x512) ![0, 0, 0] S1x64x512.size inb_S4x64x512_S1x64x512_0_0_0) (f := f) (g := vRs m c) (S := rsSet 0) (slotV_set 0).le (landed_slot m c f)) $$ Hs; iintro Hs
  iapply (step_wait' m _ K c (.rsR 0) (by decide) _ rfl (src := pC c 0) (dst := slotM 1) rfl _ (above2 c _ (by decide))) $$ [HO Hc Ha]
  · isplitr; · iexact HR
    isplitl [HO]; · iexact HO
    isplitl [Hc] <;> iassumption
  iintro ⟨HO, Hc⟩
  iapply (wp_done c)
  iapply Hk
  isplitl [HO]; · iexact HO
  isplitl [Hc2]; · iexact Hc2
  isplitl [Hp]; · iexact Hp
  isplitl [Hs] <;> iassumption

set_option maxRecDepth 4000 in
/-- Part 7: the other two peers' chunks have landed; the four chunks are summed. -/
theorem part7 (v2 d : BitVec 32) (Q : BitVec 32 → sProp (MT nD τ sig Unit (Elt F) ℕ UU ℕ)) :
    iprop(records m K ∗ Ow c (owed2 c) ∗ holdOn c cc0_scratch6 (rsSet 0) (vRs m c) ∗ came m c (.rsR 0)
        ∗ (toCome c (.rsR 1) ∗ toCome c (.rsR 2)) ∗ (atStart c (.rsR 1) ∗ atStart c (.rsR 2)) ∗ (∃ f, hold c cc0_scratch7 f))
      ⊢ iprop((∀ a : BitVec 32, (Ow c (owed2 c) ∗ holdOn c cc0_scratch6 (rsSet 0) (vRs m c) ∗ came m c (.rsR 0) ∗ came m c (.rsR 1) ∗ came m c (.rsR 2)
              ∗ hold c cc0_scratch7 (vRed m c)) -∗ Q a)
          -∗ WP c (run7 (F := F) c v2 d) Q) := by
  unfold run7
  simp only [k0_part7_eq_skeleton]; unfold k0_part7_skel
  simp only [Prog.lift, Prog.bind_op, Prog.bind_ret, Prog.pure_eq_ret]
  iintro ⟨#HR, HO, Hs, H0, ⟨Hc1, Hc2⟩, ⟨Ha1, Ha2⟩, ⟨%f, Hf⟩⟩ Hk
  iapply (step_wait' m _ K c (.rsR 1) (by decide) _ rfl (src := pC c 1) (dst := slotM 2) rfl _ (above2 c _ (by decide))) $$ [HO Hc1 Ha1]
  · isplitr; · iexact HR
    isplitl [HO]; · iexact HO
    isplitl [Hc1] <;> iassumption
  iintro ⟨HO, H1⟩
  iapply (step_wait' m _ K c (.rsR 2) (by decide) _ rfl (src := pC c 2) (dst := slotM 3) rfl _ (above2 c _ (by decide))) $$ [HO Hc2 Ha2]
  · isplitr; · iexact HR
    isplitl [HO]; · iexact HO
    isplitl [Hc2] <;> iassumption
  iintro ⟨HO, H2⟩
  ihave H0 := (Entails.of_eq (came_rsR m c 0)) $$ H0
  ihave H1 := (Entails.of_eq (came_rsR m c 1)) $$ H1
  ihave H2 := (Entails.of_eq (came_rsR m c 2)) $$ H2
  icases H0 with ⟨H0, Hz0⟩
  icases H1 with ⟨H1, Hz1⟩
  icases H2 with ⟨H2, Hz2⟩
  iapply (load_eq c (M := rsM) (f := vRs m c) (r := (slotR 0).toLoadRect) (S := rsSet 0) (slot_sub 0) (slotV_read m c 0)) $$ Hs; iintro Hs
  iapply (load_eq c (M := rsM) (f := vRs m c) (r := (slotR 1).toLoadRect) (S := rsSet (0 : Fin 3).succ) (slot_sub 1) (slotV_read m c 1)) $$ H0; iintro H0
  iapply (load_eq c (M := rsM) (f := vRs m c) (r := (slotR 2).toLoadRect) (S := rsSet (1 : Fin 3).succ) (slot_sub 2) (slotV_read m c 2)) $$ H1; iintro H1
  iapply (load_eq c (M := rsM) (f := vRs m c) (r := (slotR 3).toLoadRect) (S := rsSet (2 : Fin 3).succ) (slot_sub 3) (slotV_read m c 3)) $$ H2; iintro H2
  iapply (load_eq c (M := redM) (f := f) (Finset.subset_univ _) rfl) $$ Hf; iintro Hf
  iapply (store_eq c (M := redM) (r := Rect.unit (s := S1x64x512) ![0, 0, 0] S1x64x512.size inb_S1x64x512_S1x64x512_0_0_0) (f := f) (g := vRed m c) (Finset.subset_univ _) (stored_red m c f)) $$ Hf; iintro Hf
  iapply (wp_done c)
  iapply Hk
  simp only [came_rsR]
  isplitl [HO]; · iexact HO
  isplitl [Hs]; · iexact Hs
  isplitl [H0 Hz0]; · isplitl [H0] <;> iassumption
  isplitl [H1 Hz1]; · isplitl [H1] <;> iassumption
  isplitl [H2 Hz2]; · isplitl [H2] <;> iassumption
  iexact Hf

set_option maxRecDepth 4000 in
/-- Part 8: the summed chunk leaves for the three peers and is copied into the own result. -/
theorem part8 (v2 d : BitVec 32) (Q : (Σ' (v247 : BitVec 32), BitVec 32) → sProp (MT nD τ sig Unit (Elt F) ℕ UU ℕ)) :
    iprop(records m K ∗ Ow c (owed2 c) ∗ hold c cc0_scratch7 (vRed m c) ∗ (chunkFor c 0 ∗ chunkFor c 1 ∗ chunkFor c 2)
        ∗ (toksA c 0 ∗ toksA c 1 ∗ toksA c 2) ∗ (∃ f, holdOn c main_v1 (oSet c) f) ∗ dutyTok ER (cel c .out) 0 0 ∗ atStart c .out)
      ⊢ iprop((∀ a : BitVec 32, ∀ b : BitVec 32, (Ow c [] ∗ toCome c (.agS 0) ∗ toCome c (.agS 1) ∗ toCome c (.agS 2) ∗ came m c .out) -∗ Q ⟨a, b⟩)
          -∗ WP c (run8 (F := F) c v2 d) Q) := by
  unfold run8
  simp only [k0_part8_eq_skeleton]; unfold k0_part8_skel
  simp only [Prog.lift, Prog.bind_op, Prog.bind_ret, Prog.pure_eq_ret]
  unfold owed2
  iintro ⟨#HR, HO, Hf, ⟨Ho0, Ho1, Ho2⟩, ⟨Ht0, Ht1, Ht2⟩, Ho, Ht, Ha⟩ Hk
  ihave Hf := (lend m c).1 $$ Hf
  icases Hf with ⟨⟨Hf, Hf0⟩, Hf1, Hf2⟩
  iapply (send_ag m _ K c 0 _ (dev7_eq c) _ _ rfl rfl _) $$ [HO Hf0 Ho0 Ht0]
  · isplitr; · iexact HR
    isplitl [Hf0]; · iexact Hf0
    isplitl [Ho0]; · iexact Ho0
    isplitl [HO] <;> iassumption
  iintro ⟨Hc0, HO⟩
  iapply (send_ag m _ K c 1 _ (dev8_eq c) _ _ rfl rfl _) $$ [HO Hf1 Ho1 Ht1]
  · isplitr; · iexact HR
    isplitl [Hf1]; · iexact Hf1
    isplitl [Ho1]; · iexact Ho1
    isplitl [HO] <;> iassumption
  iintro ⟨Hc1, HO⟩
  iapply (send_ag m _ K c 2 _ (dev9_eq c) _ _ rfl rfl _) $$ [HO Hf2 Ho2 Ht2]
  · isplitr; · iexact HR
    isplitl [Hf2]; · iexact Hf2
    isplitl [Ho2]; · iexact Ho2
    isplitl [HO] <;> iassumption
  iintro ⟨Hc2, HO⟩
  iapply (start_out m _ K c _ rfl) $$ [Hf Ho Ht]
  · isplitr; · iexact HR
    isplitl [Hf]; · iexact Hf
    isplitl [Ho] <;> iassumption
  iintro Hc
  iapply (step_wait' m _ K c (.out) (by decide) _ rfl (src := redM) (dst := oC c) rfl _ (above0 c _)) $$ [HO Hc Ha]
  · isplitr; · iexact HR
    isplitl [HO]; · iexact HO
    isplitl [Hc] <;> iassumption
  iintro ⟨HO, Hc⟩
  iapply (wp_done c)
  iapply Hk
  isplitl [HO]; · iexact HO
  isplitl [Hc0]; · iexact Hc0
  isplitl [Hc1]; · iexact Hc1
  isplitl [Hc2] <;> iassumption

set_option maxRecDepth 4000 in
/-- Part 9: the three peers' summed chunks have arrived; the first two departures of the first exchange are over. -/
theorem part9 (a b : BitVec 32) (Q : PUnit → sProp (MT nD τ sig Unit (Elt F) ℕ UU ℕ)) :
    iprop(records m K ∗ Ow c [] ∗ (toCome c (.agR 0) ∗ toCome c (.agR 1) ∗ toCome c (.agR 2) ∗ toCome c (.rsS 0) ∗ toCome c (.rsS 1))
        ∗ (atStart c (.agR 0) ∗ atStart c (.agR 1) ∗ atStart c (.agR 2) ∗ atStart c (.rsS 0) ∗ atStart c (.rsS 1)))
      ⊢ iprop(((Ow c [] ∗ came m c (.agR 0) ∗ came m c (.agR 1) ∗ came m c (.agR 2) ∗ came m c (.rsS 0) ∗ came m c (.rsS 1)) -∗ Q ⟨⟩)
          -∗ WP c (run9 (F := F) c a b) Q) := by
  unfold run9
  simp only [k0_part9_eq_skeleton]; unfold k0_part9_skel
  simp only [Prog.lift, Prog.bind_op, Prog.bind_ret, Prog.pure_eq_ret]
  iintro ⟨#HR, HO, ⟨Hc0, Hc1, Hc2, Hc3, Hc4⟩, ⟨Ha0, Ha1, Ha2, Ha3, Ha4⟩⟩ Hk
  iapply (step_wait' m _ K c (.agR 0) (by decide) _ rfl (src := redM) (dst := oC c) rfl _ (above0 c _)) $$ [HO Hc0 Ha0]
  · isplitr; · iexact HR
    isplitl [HO]; · iexact HO
    isplitl [Hc0] <;> iassumption
  iintro ⟨HO, H0⟩
  iapply (step_wait' m _ K c (.agR 1) (by decide) _ rfl (src := redM) (dst := oC c) rfl _ (above0 c _)) $$ [HO Hc1 Ha1]
  · isplitr; · iexact HR
    isplitl [HO]; · iexact HO
    isplitl [Hc1] <;> iassumption
  iintro ⟨HO, H1⟩
  iapply (step_wait' m _ K c (.agR 2) (by decide) _ rfl (src := redM) (dst := oC c) rfl _ (above0 c _)) $$ [HO Hc2 Ha2]
  · isplitr; · iexact HR
    isplitl [HO]; · iexact HO
    isplitl [Hc2] <;> iassumption
  iintro ⟨HO, H2⟩
  iapply (step_wait' m _ K c (.rsS 0) (by decide) _ rfl (src := slotM 1) (dst := pC c 0) rfl _ (above0 c _)) $$ [HO Hc3 Ha3]
  · isplitr; · iexact HR
    isplitl [HO]; · iexact HO
    isplitl [Hc3] <;> iassumption
  iintro ⟨HO, H3⟩
  iapply (step_wait' m _ K c (.rsS 1) (by decide) _ rfl (src := slotM 2) (dst := pC c 1) rfl _ (above0 c _)) $$ [HO Hc4 Ha4]
  · isplitr; · iexact HR
    isplitl [HO]; · iexact HO
    isplitl [Hc4] <;> iassumption
  iintro ⟨HO, H4⟩
  iapply (wp_done c)
  iapply Hk
  isplitl [HO]; · iexact HO
  isplitl [H0]; · iexact H0
  isplitl [H1]; · iexact H1
  isplitl [H2]; · iexact H2
  isplitl [H3] <;> iassumption

end Cert.KernelIdealProof

end
-- ==== Proof.KernIdeal.Body.lean ====
/-
# The whole body

The nine parts in order, from what the launch gives a device to what it leaves.
-/
module

public import proofs.«01_k».proof.Proof.KernIdeal.Exch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The places at the start of the semaphores of the copies. -/
def starts (c : Dev nD) : sProp 𝕄 :=
  iprop((atStart c (.inp 0) ∗ atStart c (.inp 1) ∗ atStart c (.inp 2) ∗ atStart c (.inp 3)) ∗ atStart c (.inp 4) ∗ atStart c .out
    ∗ (atStart c (.rsS 0) ∗ atStart c (.rsS 1) ∗ atStart c (.rsS 2)) ∗ (atStart c (.rsR 0) ∗ atStart c (.rsR 1) ∗ atStart c (.rsR 2))
    ∗ (atStart c (.agS 0) ∗ atStart c (.agS 1) ∗ atStart c (.agS 2)) ∗ (atStart c (.agR 0) ∗ atStart c (.agR 1) ∗ atStart c (.agR 2)))

/-- The units peers will send: three signals, three arrivals in each exchange. -/
def dues (c : Dev nD) : sProp 𝕄 :=
  iprop(cred (tallyAt (barC c) () 3) ∗ (toCome c (.rsR 0) ∗ toCome c (.rsR 1) ∗ toCome c (.rsR 2))
    ∗ (toCome c (.agR 0) ∗ toCome c (.agR 1) ∗ toCome c (.agR 2)))

/-- The rights to promise the sends' and the result's units. -/
def rights (c : Dev nD) : sProp 𝕄 :=
  iprop((toksR c 0 ∗ toksR c 1 ∗ toksR c 2) ∗ (toksA c 0 ∗ toksA c 1 ∗ toksA c 2) ∗ dutyTok ER (cel c .out) 0 0)

/-- The five loads' needs and the three signals'. -/
def loads (c : Dev nD) : sProp 𝕄 := iprop(inPre m c 0 ∗ inPre m c 1 ∗ inPre m c 2 ∗ inPre m c 3 ∗ inPre m c 4)
def signals (c : Dev nD) : sProp 𝕄 := iprop(sigPre c 0 ∗ sigPre c 1 ∗ sigPre c 2)

/-- The arrays the body writes itself, at any contents. -/
def scratch (c : Dev nD) : sProp 𝕄 :=
  iprop((∃ f, hold c cc0_scratch5 f) ∗ (∃ f, holdOn c cc0_scratch6 (rsSet 0) f) ∗ (∃ f, hold c cc0_scratch7 f) ∗ (∃ f, holdOn c main_v1 (oSet c) f))

/-- What the body starts with, -/
def bodyIn (c : Dev nD) : sProp 𝕄 :=
  iprop(Ow c (owed0 c) ∗ loads m c ∗ signals c ∗ atPos ER (barC c) 0 ∅ 0 ∗ starts c ∗ dues c ∗ rights c ∗ scratch c)

/-- and what it ends with: everything that came, nothing owed. -/
def bodyOut (c : Dev nD) : sProp 𝕄 :=
  iprop(Ow c [] ∗ (came m c (.inp 0) ∗ came m c (.inp 1) ∗ came m c (.inp 2) ∗ came m c (.inp 3) ∗ came m c (.inp 4)) ∗ came m c .out
    ∗ (came m c (.rsS 0) ∗ came m c (.rsS 1) ∗ came m c (.rsS 2)) ∗ (came m c (.rsR 0) ∗ came m c (.rsR 1) ∗ came m c (.rsR 2))
    ∗ (came m c (.agS 0) ∗ came m c (.agS 1) ∗ came m c (.agS 2)) ∗ (came m c (.agR 0) ∗ came m c (.agR 1) ∗ came m c (.agR 2))
    ∗ holdOn c cc0_scratch5 (pSet c) (vP m c) ∗ holdOn c cc0_scratch6 (rsSet 0) (vRs m c) ∗ semVal (barC c) 0)

/-- What the barrier brings, peer by peer. -/
theorem bar_cut (c : Dev nD) : (bigSep Finset.univ (barPay (F := F) c) : sProp 𝕄)
    = iprop((slotFor c 0 ∗ chunkFor c 0) ∗ (slotFor c 1 ∗ chunkFor c 1) ∗ (slotFor c 2 ∗ chunkFor c 2)) :=
  bigSep_univ_eq_bigSepL ([0, 1, 2] : List (Fin 3)) (by decide) (by decide) (barPay (F := F) c)

/-- A program after another. -/
theorem wp_seq {α β : Type} {Q : β → sProp (MT nD τ sig Unit (Elt F) ℕ UU ℕ)} (c : Dev nD) (p : Prog (TpuEff nD τ sig (Elt F) Λ₀ .tc) α)
    (k : α → Prog (TpuEff nD τ sig (Elt F) Λ₀ .tc) β) : WP c p (fun a => WP c (k a) Q) ⊢ WP c (p >>= k) Q :=
  Entails.of_eq (wp_bind _ _ _ p k Q).symm

set_option maxHeartbeats 2000000 in
set_option maxRecDepth 8000 in
/-- The whole body. -/
theorem body (K : Dev nD × SemLoc sig → ℕ) (c : Dev nD) (t : Fin cfg0.N) (Q : PUnit → sProp (MT nD τ sig Unit (Elt F) ℕ UU ℕ)) :
    iprop(records m K ∗ bodyIn m c) ⊢ iprop((bodyOut m c -∗ Q ⟨⟩) -∗ WP c (bodyAt0 (F := F) t) Q) := by
  unfold bodyAt0
  rw [cc0_body_eq_skeleton]
  unfold cc0_body_skel bodyIn loads signals starts dues rights scratch
  iintro ⟨#HR, HO, Hl, ⟨Hg0, Hg1, Hg2⟩, HaB, ⟨HaL, HaL4, HaO, ⟨HaS0, HaS1, HaS2⟩, ⟨HaR0, HaR1, HaR2⟩, ⟨HaA0, HaA1, HaA2⟩, ⟨HaG0, HaG1, HaG2⟩⟩,
    ⟨HcB, ⟨HcR0, HcR1, HcR2⟩, ⟨HcG0, HcG1, HcG2⟩⟩, ⟨⟨HtR0, HtR1, HtR2⟩, HtA, HtO⟩, ⟨Hp, Hs, Hr, Ho⟩⟩ Hk
  iapply (wp_seq c)
  iapply (part1 m K c _) $$ [HO Hl Hg0 Hg1]
  · isplitr; · iexact HR
    isplitl [HO]; · iexact HO
    isplitl [Hl]; · iexact Hl
    isplitl [Hg0] <;> iassumption
  iintro %v2 ⟨HO, Hc0, Hc1, Hc2, Hc3, Hc4⟩
  try dsimp only
  iapply (wp_seq c)
  iapply (part2 m K c v2 _) $$ [HO Hg2 HcB HaB Hc0 Hc1 Hc2 Hc3 HaL]
  · isplitr; · iexact HR
    isplitl [HO]; · iexact HO
    isplitl [Hg2]; · iexact Hg2
    isplitl [HcB]; · iexact HcB
    isplitl [HaB]; · iexact HaB
    isplitr [HaL]
    · isplitl [Hc0]; · iexact Hc0
      isplitl [Hc1]; · iexact Hc1
      isplitl [Hc2] <;> iassumption
    iexact HaL
  iintro ⟨HO, Hb, HzB, Hi0, Hi1, Hi2, Hi3⟩
  try dsimp only
  ihave Hb := (Entails.of_eq (bar_cut c)) $$ Hb
  icases Hb with ⟨⟨Hs0, Ho0⟩, ⟨Hs1, Ho1⟩, ⟨Hs2, Ho2⟩⟩
  iapply (wp_seq c)
  iapply (part3 c _ _ _ _ _ _ _ _)
  iapply (wp_seq c)
  iapply (part4 m K c _ _ _ _ _ _ _ _ _ _ _ _ _ _ _) $$ [HO Hc4 HaL4]
  · isplitr; · iexact HR
    isplitl [HO]; · iexact HO
    isplitl [Hc4] <;> iassumption
  iintro ⟨HO, Hi4⟩
  try dsimp only
  iapply (wp_seq c)
  iapply (part5 m K c _ _ rfl _) $$ [HO Hp Hs0 Hs1 HtR0 HtR1]
  · isplitr; · iexact HR
    isplitl [HO]; · iexact HO
    isplitl [Hp]; · iexact Hp
    isplitl [Hs0 Hs1]; · isplitl [Hs0] <;> iassumption
    isplitl [HtR0] <;> iassumption
  iintro %a %b %d ⟨HO, HcS0, HcS1, Hp2, Hp⟩
  try dsimp only
  iapply (wp_seq c)
  iapply (part6 m K c _ _ _ _ _) $$ [HO Hp2 Hs2 HtR2 Hp Hs HcR0 HaR0]
  · isplitr; · iexact HR
    isplitl [HO]; · iexact HO
    isplitl [Hp2]; · iexact Hp2
    isplitl [Hs2]; · iexact Hs2
    isplitl [HtR2]; · iexact HtR2
    isplitl [Hp]; · iexact Hp
    isplitl [Hs]; · iexact Hs
    isplitl [HcR0] <;> iassumption
  iintro ⟨HO, HcS2, Hp, Hs, HR0⟩
  try dsimp only
  iapply (wp_seq c)
  iapply (part7 m K c _ _ _) $$ [HO Hs HR0 HcR1 HcR2 HaR1 HaR2 Hr]
  · isplitr; · iexact HR
    isplitl [HO]; · iexact HO
    isplitl [Hs]; · iexact Hs
    isplitl [HR0]; · iexact HR0
    isplitl [HcR1 HcR2]; · isplitl [HcR1] <;> iassumption
    isplitl [HaR1 HaR2]; · isplitl [HaR1] <;> iassumption
    iexact Hr
  iintro %e ⟨HO, Hs, HR0, HR1, HR2, Hr⟩
  try dsimp only
  iapply (wp_seq c)
  iapply (part8 m K c _ _ _) $$ [HO Hr Ho0 Ho1 Ho2 HtA Ho HtO HaO]
  · isplitr; · iexact HR
    isplitl [HO]; · iexact HO
    isplitl [Hr]; · iexact Hr
    isplitl [Ho0 Ho1 Ho2]
    · isplitl [Ho0]; · iexact Ho0
      isplitl [Ho1] <;> iassumption
    isplitl [HtA]; · iexact HtA
    isplitl [Ho]; · iexact Ho
    isplitl [HtO] <;> iassumption
  iintro %g %h ⟨HO, HcA0, HcA1, HcA2, Hout⟩
  try dsimp only
  iapply (wp_seq c)
  iapply (part9 m K c _ _ _) $$ [HO HcG0 HcG1 HcG2 HcS0 HcS1 HaG0 HaG1 HaG2 HaS0 HaS1]
  · isplitr; · iexact HR
    isplitl [HO]; · iexact HO
    isplitl [HcG0 HcG1 HcG2 HcS0 HcS1]
    · isplitl [HcG0]; · iexact HcG0
      isplitl [HcG1]; · iexact HcG1
      isplitl [HcG2]; · iexact HcG2
      isplitl [HcS0] <;> iassumption
    isplitl [HaG0]; · iexact HaG0
    isplitl [HaG1]; · iexact HaG1
    isplitl [HaG2]; · iexact HaG2
    isplitl [HaS0] <;> iassumption
  iintro ⟨HO, HG0, HG1, HG2, HS0, HS1⟩
  simp only [Prog.lift, Prog.bind_op, Prog.bind_ret, Prog.pure_eq_ret]
  iapply (step_wait' m _ K c (.rsS 2) (by decide) _ rfl (src := slotM 3) (dst := pC c 2) rfl _ (above0 c _)) $$ [HO HcS2 HaS2]
  · isplitr; · iexact HR
    isplitl [HO]; · iexact HO
    isplitl [HcS2] <;> iassumption
  iintro ⟨HO, HS2⟩
  iapply (step_wait' m _ K c (.agS 0) (by decide) _ rfl (src := oC c) (dst := redM) rfl _ (above0 c _)) $$ [HO HcA0 HaA0]
  · isplitr; · iexact HR
    isplitl [HO]; · iexact HO
    isplitl [HcA0] <;> iassumption
  iintro ⟨HO, HA0⟩
  iapply (step_wait' m _ K c (.agS 1) (by decide) _ rfl (src := oC c) (dst := redM) rfl _ (above0 c _)) $$ [HO HcA1 HaA1]
  · isplitr; · iexact HR
    isplitl [HO]; · iexact HO
    isplitl [HcA1] <;> iassumption
  iintro ⟨HO, HA1⟩
  iapply (step_wait' m _ K c (.agS 2) (by decide) _ rfl (src := oC c) (dst := redM) rfl _ (above0 c _)) $$ [HO HcA2 HaA2]
  · isplitr; · iexact HR
    isplitl [HO]; · iexact HO
    isplitl [HcA2] <;> iassumption
  iintro ⟨HO, HA2⟩
  iapply (wp_done c)
  iapply Hk
  unfold bodyOut
  isplitl [HO]; · iexact HO
  isplitl [Hi0 Hi1 Hi2 Hi3 Hi4]
  · isplitl [Hi0]; · iexact Hi0
    isplitl [Hi1]; · iexact Hi1
    isplitl [Hi2]; · iexact Hi2
    isplitl [Hi3] <;> iassumption
  isplitl [Hout]; · iexact Hout
  isplitl [HS0 HS1 HS2]
  · isplitl [HS0]; · iexact HS0
    isplitl [HS1] <;> iassumption
  isplitl [HR0 HR1 HR2]
  · isplitl [HR0]; · iexact HR0
    isplitl [HR1] <;> iassumption
  isplitl [HA0 HA1 HA2]
  · isplitl [HA0]; · iexact HA0
    isplitl [HA1] <;> iassumption
  isplitl [HG0 HG1 HG2]
  · isplitl [HG0]; · iexact HG0
    isplitl [HG1] <;> iassumption
  isplitl [Hp]; · iexact Hp
  isplitl [Hs] <;> iassumption

end Cert.KernelIdealProof

end
-- ==== Proof.KernIdeal.Deal.lean ====
/-
# What the launch deals

From the counters at zero every semaphore's record is opened, its right to be waited for goes to its own device, and the
rights to signal it go to the device that does.  The units the devices owe one another at launch are, semaphore by
semaphore, the units its waiter is to receive.
-/
module

public import proofs.«01_k».proof.Proof.KernIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A device's semaphores -/

/-- The semaphores of the copies are the kernel's own. -/
def osem : Fin 22 → SemLoc sig := fun i => .dma i

theorem ownSemFacts : Pipeline.OwnSemFacts cfg0.spec osem := by decide

abbrev allDma : List (Fin 22) := [0, 1, 2, 3, 4, 5, 6, 7, 8, 9, 10, 11, 12, 13, 14, 15, 16, 17, 18, 19, 20, 21]

omit [FloatOps F] in
/-- Something for every semaphore of a device: for its barrier semaphore and for those of the copies. -/
theorem all_sems (Φ : SemLoc sig → sProp (MT nD τ sig Unit (Elt F) ℕ UU ℕ)) :
    bigSep Finset.univ Φ = iprop(Φ (.reg barS) ∗ bigSep Finset.univ fun i : Fin 22 => Φ (.dma i)) := by
  rw [bigSep_univ_at _ (SemLoc.reg barS)]
  congr 1

omit [FloatOps F] in
/-- Something for every semaphore of the copies, by use; the four that have none last. -/
theorem by_use (Φ : Fin 22 → sProp (MT nD τ sig Unit (Elt F) ℕ UU ℕ)) :
    bigSep Finset.univ Φ ⊣⊢ iprop(
      ((Φ 0 ∗ Φ 1 ∗ Φ 2 ∗ Φ 3) ∗ Φ 4 ∗ Φ 5
        ∗ (Φ 7 ∗ Φ 8 ∗ Φ 9) ∗ (Φ 11 ∗ Φ 12 ∗ Φ 13) ∗ (Φ 15 ∗ Φ 16 ∗ Φ 17) ∗ (Φ 19 ∗ Φ 20 ∗ Φ 21))
      ∗ (Φ 6 ∗ Φ 10 ∗ Φ 14 ∗ Φ 18)) := by
  rw [bigSep_univ_eq_bigSepL allDma (by decide) (by decide)]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18
    ∗ Φ 19 ∗ Φ 20 ∗ Φ 21) ⊣⊢ _
  constructor
  · iintro ⟨H0, H1, H2, H3, H4, H5, H6, H7, H8, H9, H10, H11, H12, H13, H14, H15, H16, H17, H18, H19, H20, H21⟩
    isplitr [H6 H10 H14 H18]
    · isplitl [H0 H1 H2 H3]
      · isplitl [H0]; · iexact H0
        isplitl [H1]; · iexact H1
        isplitl [H2] <;> iassumption
      isplitl [H4]; · iexact H4
      isplitl [H5]; · iexact H5
      isplitl [H7 H8 H9]
      · isplitl [H7]; · iexact H7
        isplitl [H8] <;> iassumption
      isplitl [H11 H12 H13]
      · isplitl [H11]; · iexact H11
        isplitl [H12] <;> iassumption
      isplitl [H15 H16 H17]
      · isplitl [H15]; · iexact H15
        isplitl [H16] <;> iassumption
      isplitl [H19]; · iexact H19
      isplitl [H20] <;> iassumption
    · isplitl [H6]; · iexact H6
      isplitl [H10]; · iexact H10
      isplitl [H14] <;> iassumption
  · iintro ⟨⟨⟨H0, H1, H2, H3⟩, H4, H5, ⟨H7, H8, H9⟩, ⟨H11, H12, H13⟩, ⟨H15, H16, H17⟩, ⟨H19, H20, H21⟩⟩, H6, H10, H14, H18⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20] <;> iassumption

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Fin 22 => semVal ((c : Thread nD τ), .dma i) 0 := rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

/-! ## Places and rights -/

theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg (fun g : GSem nD τ sig => g.2) h
  rw [h1, h2]
/-- Every semaphore of every device, -/
def cells : Finset (GSem nD τ sig) := Finset.univ.map ⟨kcell, kcell_injective⟩

abbrev tokOf (x : Dev nD × SemLoc sig × Fin 3) : GSem nD τ sig × ℕ × Fin 3 := (kcell (x.1, x.2.1), 0, x.2.2)
theorem tokOf_injective : Function.Injective tokOf := by
  rintro ⟨c, k, d⟩ ⟨c', k', d'⟩ h
  have h1 : c = c' := congrArg (fun g : GSem nD τ sig × ℕ × Fin 3 => g.1.1.1) h
  have h2 : k = k' := congrArg (fun g : GSem nD τ sig × ℕ × Fin 3 => g.1.2) h
  have h3 : d = d' := congrArg (fun g : GSem nD τ sig × ℕ × Fin 3 => g.2.2) h
  rw [h1, h2, h3]
/-- and three rights to signal each. -/
def rightsAll : Finset (GSem nD τ sig × ℕ × Fin 3) := Finset.univ.map ⟨tokOf, tokOf_injective⟩

def u₀ : UU := (initOf (Pipeline.cells cfgs cellOf_inj) (Pipeline.launchToks cfgs cellOf_inj), initOf cells rightsAll)

/-- The rights to signal device `c`'s semaphores. -/
def toks (c : Dev nD) : sProp 𝕄 := bigSep Finset.univ fun s : SemLoc sig => bigSep Finset.univ fun d : Fin 3 => dutyTok ER (kcell (c, s)) 0 d
/-- The places at the start of device `c`'s semaphores. -/
def places (c : Dev nD) : sProp 𝕄 := bigSep Finset.univ fun s : SemLoc sig => atPos ER (kcell (c, s)) 0 ∅ 0

/-- What the launch's ghost state is to device `c`. -/
def G (c : Dev nD) : sProp 𝕄 :=
  iprop((bigSep Finset.univ fun s : SemLoc sig => roundState ER (sched m) (kcell (c, s)) 0)
    ∗ (bigSep Finset.univ fun s : SemLoc sig => reached ER (kcell (c, s)) 0) ∗ places c ∗ toks c)

theorem fund : BI.own (ER (initOf cells rightsAll)) ⊢ (|==> bigSep Finset.univ (G m) : sProp 𝕄) := by
  have hX (Φ : GSem nD τ sig → sProp 𝕄) : bigSep cells Φ = bigSep Finset.univ fun c : Dev nD => bigSep Finset.univ fun s : SemLoc sig => Φ (kcell (c, s)) := by
    unfold cells; rw [bigSep_map, bigSep_univ_prod]; rfl
  have hT : bigSep rightsAll (fun x => (dutyTok ER x.1 x.2.1 x.2.2 : sProp 𝕄)) = bigSep Finset.univ fun c : Dev nD => toks c := by
    unfold rightsAll; rw [bigSep_map, bigSep_univ_prod]
    exact bigSep_congr fun c _ => by unfold toks; rw [bigSep_univ_prod]; rfl
  iintro HX
  imod (Rounds.fund ER (sched m) cells rightsAll) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hr]; · iexact Hr
  isplitl [Hat]; · iexact Hat
  iexact Htok

/-- The rights device `c` keeps: to signal its peers' barriers and for its copies. -/
def sigToks (c : Dev nD) : sProp 𝕄 :=
  iprop(dutyTok ER (barC (pl c 0)) 0 (Fin.rev 0) ∗ dutyTok ER (barC (pl c 1)) 0 (Fin.rev 1) ∗ dutyTok ER (barC (pl c 2)) 0 (Fin.rev 2))
def inToks (c : Dev nD) : sProp 𝕄 :=
  iprop((dutyTok ER (cel c (.inp 0)) 0 0 ∗ dutyTok ER (cel c (.inp 1)) 0 0 ∗ dutyTok ER (cel c (.inp 2)) 0 0 ∗ dutyTok ER (cel c (.inp 3)) 0 0)
    ∗ dutyTok ER (cel c (.inp 4)) 0 0)
def payToks (c : Dev nD) : sProp 𝕄 := iprop(sigToks c ∗ inToks c ∗ rights c)

/-- Three things in a row. -/
def three (Φ : Fin 3 → sProp (MT nD τ sig Unit (Elt F) ℕ UU ℕ)) : sProp 𝕄 := iprop(Φ 0 ∗ Φ 1 ∗ Φ 2)

/-- The rights to signal `c`'s own semaphores, by use. -/
def ownToks (c : Dev nD) : sProp 𝕄 :=
  iprop(three (fun k => dutyTok ER (barC c) 0 k.rev) ∗ inToks c ∗ dutyTok ER (cel c .out) 0 0
    ∗ three (fun k => dutyTok ER (cel c (.rsS k)) 0 0) ∗ three (fun k => dutyTok ER (cel c (.rsR k)) 0 0)
    ∗ three (fun k => dutyTok ER (cel c (.agS k)) 0 0) ∗ three (fun k => dutyTok ER (cel c (.agR k)) 0 0))

omit [FloatOps F] in
theorem toks_own (c : Dev nD) : (toks c : sProp 𝕄) ⊢ ownToks c := by
  unfold toks ownToks inToks three
  dsimp only
  rw [all_sems]
  iintro ⟨HB, HD⟩
  ihave HB := (show (bigSep Finset.univ fun d : Fin 3 => (dutyTok ER (kcell (c, .reg barS)) 0 d : sProp 𝕄))
      ⊢ iprop(dutyTok ER (barC c) 0 0 ∗ dutyTok ER (barC c) 0 1 ∗ dutyTok ER (barC c) 0 2) from
    Entails.of_eq (bigSep_univ_eq_bigSepL ([0, 1, 2] : List (Fin 3)) (by decide) (by decide) _)) $$ HB
  icases HB with ⟨HB0, HB1, HB2⟩
  ihave HD := (show (bigSep Finset.univ fun i : Fin 22 => bigSep Finset.univ fun d : Fin 3 => (dutyTok ER (kcell (c, .dma i)) 0 d : sProp 𝕄))
      ⊢ bigSep Finset.univ fun i : Fin 22 => dutyTok ER (kcell (c, .dma i)) 0 0 from
    bigSep_mono fun i _ => bigSep_elim (Finset.mem_univ (0 : Fin 3))) $$ HD
  ihave HD := (by_use (fun i => (dutyTok ER (kcell (c, .dma i)) 0 0 : sProp 𝕄))).1 $$ HD
  icases HD with ⟨⟨HI, HI4, HO, HS, HR, HA, HG⟩, -⟩
  isplitl [HB0 HB1 HB2]
  · isplitl [HB2]; · iexact HB2
    isplitl [HB1]; · iexact HB1
    iexact HB0
  isplitl [HI HI4]
  · isplitl [HI]; · iexact HI
    iexact HI4
  isplitl [HO]; · iexact HO
  isplitl [HS]; · iexact HS
  isplitl [HR]; · iexact HR
  isplitl [HA]; · iexact HA
  iexact HG

omit [FloatOps F] in
/-- Three things for every device, each handed to the peer that many places back. -/
theorem deal (Φ : Fin 3 → Dev nD → sProp (MT nD τ sig Unit (Elt F) ℕ UU ℕ)) :
    (bigSep Finset.univ fun c : Dev nD => three fun k => Φ k c) = bigSep Finset.univ fun c : Dev nD => three fun k => Φ k (pl c k) := by
  unfold three
  rw [bigSep_sep', bigSep_sep', bigSep_sep', bigSep_sep', bigSep_univ_equiv (plE 0) (Φ 0), bigSep_univ_equiv (plE 1) (Φ 1), bigSep_univ_equiv (plE 2) (Φ 2)]
  rfl

omit [FloatOps F] in
/-- Every right to signal goes to the device that does. -/
theorem toks_around : (bigSep Finset.univ fun c : Dev nD => (toks c : sProp 𝕄)) ⊢ bigSep Finset.univ fun c : Dev nD => payToks c := by
  refine BIBase.Entails.trans (bigSep_mono fun c _ => toks_own c) ?_
  unfold ownToks
  rw [bigSep_sep', bigSep_sep', bigSep_sep', bigSep_sep', bigSep_sep', bigSep_sep',
    deal (fun k c => (dutyTok ER (barC c) 0 k.rev : sProp 𝕄)), deal (fun k c => (dutyTok ER (cel c (.rsR k)) 0 0 : sProp 𝕄)),
    deal (fun k c => (dutyTok ER (cel c (.agR k)) 0 0 : sProp 𝕄)),
    ← bigSep_sep', ← bigSep_sep', ← bigSep_sep', ← bigSep_sep', ← bigSep_sep', ← bigSep_sep']
  refine bigSep_mono fun c _ => ?_
  unfold payToks sigToks rights toksR toksA three
  dsimp only
  show (_ : sProp 𝕄) ⊢ _
  iintro ⟨HB, HI, HO, ⟨HS0, HS1, HS2⟩, ⟨HR0, HR1, HR2⟩, ⟨HA0, HA1, HA2⟩, ⟨HG0, HG1, HG2⟩⟩
  isplitl [HB]; · iexact HB
  isplitl [HI]; · iexact HI
  isplitl [HS0 HS1 HS2 HR0 HR1 HR2]
  · isplitl [HS0 HR0]; · isplitl [HS0] <;> iassumption
    isplitl [HS1 HR1]
    · isplitl [HS1] <;> iassumption
    isplitl [HS2] <;> iassumption
  isplitl [HA0 HA1 HA2 HG0 HG1 HG2]
  · isplitl [HA0 HG0]; · isplitl [HA0] <;> iassumption
    isplitl [HA1 HG1]
    · isplitl [HA1] <;> iassumption
    isplitl [HA2] <;> iassumption
  iexact HO

/-! ## The records -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s => iprop(∃ κ : ℕ, cellInv ER (sched m) κ (kcell (c, s))))
          ∗ (bigSep Finset.univ fun s : SemLoc sig => reached ER (kcell (c, s)) 0) ∗ places c ∗ toks c) := by
  unfold G
  iintro ⟨Hos, Hus, Hst, Hr, Hat, Htok⟩
  ihave Hv := (show iprop((bigSep Finset.univ fun i : Fin 22 => semVal ((c : Thread nD τ), .dma i) 0) ∗ semVal (barC c) 0)
      ⊢ (bigSep Finset.univ fun s : SemLoc sig => semVal (kcell (c, s)) 0 : sProp 𝕄) from by
        rw [all_sems]
        iintro ⟨H1, H2⟩
        isplitl [H2] <;> iassumption) $$ [Hos Hus]
  · rw [← unscopedSems0_eq, ← ownSems0_eq]
    isplitl [Hos] <;> iassumption
  imod (show iprop((bigSep Finset.univ fun s : SemLoc sig => semVal (kcell (c, s)) 0) ∗ bigSep Finset.univ fun s : SemLoc sig => roundState ER (sched m) (kcell (c, s)) 0)
      ⊢ (|={Set.univ}=> bigSep Finset.univ fun s => iprop(∃ κ : ℕ, cellInv ER (sched m) κ (kcell (c, s))) : sProp 𝕄) from by
        rw [← bigSep_sep']
        exact (bigSep_mono fun s _ => (Rounds.body_intro ER (sched m) (kcell (c, s))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- The records of every semaphore, without their order. -/
def known (K : Dev nD × SemLoc sig → ℕ) : sProp 𝕄 :=
  iprop((bigSep Finset.univ fun cs : Dev nD × SemLoc sig => cellInv ER (sched m) (K cs) (kcell cs))
    ∗ (bigSep Finset.univ fun cs : Dev nD × SemLoc sig => reached ER (kcell cs) 0))
instance known_persistent (K : Dev nD × SemLoc sig → ℕ) : BI.Persistent (known m K) := by unfold known; infer_instance

theorem known_records (K : Dev nD × SemLoc sig → ℕ) : iprop(known m K ∗ levAts L lv) ⊢ records m K := by
  unfold known records
  iintro ⟨⟨H1, H2⟩, H3⟩
  isplitl [H1]; · iexact H1
  isplitl [H2] <;> iassumption

/-- What device `c` is dealt. -/
def G' (c : Dev nD) : sProp 𝕄 := iprop(∃ K, known m K ∗ places c ∗ payToks c)

theorem with_persistent {R : sProp (MT nD τ sig Unit (Elt F) ℕ UU ℕ)} [BI.Persistent R] {Φ Ψ : Dev nD → sProp (MT nD τ sig Unit (Elt F) ℕ UU ℕ)}
    (h : ∀ i, iprop(R ∗ Φ i) ⊢ Ψ i) : iprop(R ∗ bigSep Finset.univ Φ) ⊢ bigSep Finset.univ Ψ :=
  BIBase.Entails.trans (sep_mono_left (BI.bigSep_of_persistent Finset.univ R)) (by rw [← bigSep_sep']; exact bigSep_mono fun i _ => h i)

theorem regroup :
    (bigSep Finset.univ fun c : Dev nD => iprop((bigSep Finset.univ fun s => iprop(∃ κ : ℕ, cellInv ER (sched m) κ (kcell (c, s))))
          ∗ (bigSep Finset.univ fun s : SemLoc sig => reached ER (kcell (c, s)) 0) ∗ places c ∗ toks c) : sProp 𝕄)
      ⊢ bigSep Finset.univ (G' m) := by
  rw [bigSep_sep', bigSep_sep', bigSep_sep', ← bigSep_univ_prod (fun cs : Dev nD × SemLoc sig => iprop(∃ κ : ℕ, cellInv ER (sched m) κ (kcell cs))),
    ← bigSep_univ_prod (fun cs : Dev nD × SemLoc sig => (reached ER (kcell cs) 0 : sProp 𝕄))]
  iintro ⟨HI, #HR, Hat, Htok⟩
  ihave HK := (BI.bigSep_exists_pi Finset.univ (fun (cs : Dev nD × SemLoc sig) (κ : ℕ) => (cellInv ER (sched m) κ (kcell cs) : sProp 𝕄))) $$ HI
  icases HK with ⟨%K, #HI⟩
  ihave Htk := (toks_around (F := F)) $$ Htok
  iapply (with_persistent (R := known m K) (Φ := fun c => iprop(places c ∗ payToks c)) (Ψ := G' m) fun c => by
    unfold G'
    iintro ⟨HK, HP⟩
    iexists K
    isplitl [HK] <;> iassumption)
  isplitr
  · unfold known; isplitl; · iexact HI
    iexact HR
  rw [bigSep_sep']
  isplitl [Hat] <;> iassumption

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (bigSep_mono fun c _ => core_alloc m c) (bigSep_fupd _ _)) (BI.fupd_mono (regroup m))

/-! ## The units owed at launch -/

theorem kcell_iff (a b : Dev nD) (s t : SemLoc sig) : (kcell (a, s) = kcell (b, t)) = (a = b ∧ s = t) :=
  propext ⟨fun h => Prod.mk.inj (kcell_injective h), fun h => by rw [h.1, h.2]⟩

/-- The units a list owes a semaphore. -/
theorem owing_at (l : List (GSem nD τ sig × ℕ)) (g : GSem nD τ sig) :
    owing l g () = (l.map fun p => if g = p.1 then p.2 else 0).sum := by
  induction l with
  | nil => rfl
  | cons p l ih =>
    rw [owing, Pi.add_apply, Finsupp.add_apply, ih, List.map_cons, List.sum_cons, tallyAt_apply, Nat.add_comm]
    simp only [and_true]

/-- One device owes each thing. -/
theorem one_owes (c : Dev nD) (k : Fin 3) (n : ℕ) : (∑ d : Dev nD, if c = pl d k then n else 0) = n := by
  rw [Finset.sum_eq_single (pl c k.rev)]
  · rw [if_pos (pl_rev_pl c k).symm]
  · intro d _ hd
    rw [if_neg fun h => hd (by rw [h, pl_pl_rev])]
  · exact fun h => absurd (Finset.mem_univ _) h

theorem owed_bar (d c : Dev nD) : O₀ d (barC c) () = (if c = pl d 0 then 1 else 0) + ((if c = pl d 1 then 1 else 0) + (if c = pl d 2 then 1 else 0)) := by
  unfold O₀; rw [owing_at]
  simp only [owed0, owed1, owed2, List.map_cons, List.map_nil, List.sum_cons, List.sum_nil]
  have e (b : Dev nD) : (barC c = barC b) = (c = b) := (kcell_iff _ _ _ _).trans (by simp)
  simp only [e]
  rw [
    if_neg (show barC c ≠ (debtR d 0).1 from fun h => absurd (congrArg Prod.snd h) (by simp)),
    if_neg (show barC c ≠ (debtR d 1).1 from fun h => absurd (congrArg Prod.snd h) (by simp)),
    if_neg (show barC c ≠ (debtR d 2).1 from fun h => absurd (congrArg Prod.snd h) (by simp)),
    if_neg (show barC c ≠ (debtA d 0).1 from fun h => absurd (congrArg Prod.snd h) (by simp)),
    if_neg (show barC c ≠ (debtA d 1).1 from fun h => absurd (congrArg Prod.snd h) (by simp)),
    if_neg (show barC c ≠ (debtA d 2).1 from fun h => absurd (congrArg Prod.snd h) (by simp))]
  omega

/-- A device owes an arrival's units to one peer. -/
theorem owed_arr (u : Use) (k : Fin 3) (hu : u = .rsR k ∨ u = .agR k) (d c : Dev nD) : O₀ d (cel c u) () = if c = pl d k then amt u else 0 := by
  have e (v : Use) (a b : Dev nD) : (cel a u = cel b v) = (a = b ∧ SemLoc.dma (sig := sig) (semOf u) = .dma (semOf v)) := kcell_iff _ _ _ _
  have eb (b : Dev nD) : cel c u ≠ barC b := fun h => absurd (congrArg Prod.snd h) (by simp)
  unfold O₀; rw [owing_at]
  simp only [owed0, owed1, owed2, List.map_cons, List.map_nil, List.sum_cons, List.sum_nil, e]
  rw [if_neg (eb _), if_neg (eb _), if_neg (eb _)]
  rcases hu with rfl | rfl <;> fin_cases k <;> simp [semOf, amt]

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    one_owes, one_owes, one_owes]
  rfl

/-- The same of an arrival. -/
theorem launch_arr (u : Use) (k : Fin 3) (hu : u = .rsR k ∨ u = .agR k) (c : Dev nD) :
    tallyOn (cel c u) (launchCredit (Pipeline.owing O₀) 0 (cel c u)) = (tallyAt (cel c u) () (amt u) : CellTallies nD τ sig Unit) := by
  unfold tallyAt; refine congrArg _ (Finsupp.ext fun v => ?_); cases v
  rw [Pipeline.launchCredit_owing, Finsupp.single_eq_same, Finset.sum_congr rfl fun d _ => owed_arr u k hu d c, one_owes]

/-- The units owed at launch are what the waits are promised. -/
theorem creds (c : Dev nD) : (Pipeline.launchCred O₀ c : sProp 𝕄) ⊢ dues c := by
  unfold Pipeline.launchCred dues toCome
  rw [all_sems, launch_bar]
  refine sep_mono_right ?_
  rw [← launch_arr (.rsR 0) 0 (.inl rfl), ← launch_arr (.rsR 1) 1 (.inl rfl), ← launch_arr (.rsR 2) 2 (.inl rfl),
    ← launch_arr (.agR 0) 0 (.inr rfl), ← launch_arr (.agR 1) 1 (.inr rfl), ← launch_arr (.agR 2) 2 (.inr rfl)]
  iintro H
  ihave H := (by_use (fun i => (cred (tallyOn ((c : Thread nD τ), .dma i) (launchCredit (Pipeline.owing O₀) 0 ((c : Thread nD τ), .dma i))) : sProp 𝕄))).1 $$ H
  icases H with ⟨⟨-, -, -, -, HR, -, HG⟩, -⟩
  isplitl [HR]; · iexact HR
  iexact HG

end Cert.KernelIdealProof

end
-- ==== Proof.KernIdeal.Launch.lean ====
/-
# The run

The body of every device, put into the launch: every fair run of the four devices ends, with the arguments as they were,
the result of every device at the summed chunks, and every counter at zero.
-/
module

public import proofs.«01_k».proof.Proof.KernIdeal.Deal
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- The launch's contents of an array. -/
abbrev m0 (c : Dev nD) (b : Ref sig .tc) : Buf (Elt F) ((c : Thread nD τ).loc b) := m ((c : Thread nD τ).loc b)

/-- The arguments of device `c` as launched. -/
def argsAt (c : Dev nD) : sProp 𝕄 :=
  iprop(hold c main_arg0 (m0 m c main_arg0) ∗ hold c main_arg1 (m0 m c main_arg1) ∗ hold c main_arg2 (m0 m c main_arg2)
    ∗ hold c main_arg3 (m0 m c main_arg3) ∗ hold c main_arg4 (m0 m c main_arg4))

/-- The four unused counters at zero. -/
def offs (c : Dev nD) : sProp 𝕄 :=
  iprop(semVal ((c : Thread nD τ), .dma (6 : Fin 22)) 0 ∗ semVal ((c : Thread nD τ), .dma (10 : Fin 22)) 0
    ∗ semVal ((c : Thread nD τ), .dma (14 : Fin 22)) 0 ∗ semVal ((c : Thread nD τ), .dma (18 : Fin 22)) 0)

/-- The scratch arrays at any contents. -/
def scr (c : Dev nD) : sProp 𝕄 :=
  iprop((∃ f, hold c cc0_scratch0 f) ∗ (∃ f, hold c cc0_scratch1 f) ∗ (∃ f, hold c cc0_scratch2 f) ∗ (∃ f, hold c cc0_scratch3 f)
    ∗ (∃ f, hold c cc0_scratch4 f) ∗ (∃ f, hold c cc0_scratch5 f) ∗ (∃ f, hold c cc0_scratch6 f) ∗ (∃ f, hold c cc0_scratch7 f))

/-- What a device starts with besides its scratch arrays: -/
def start (c : Dev nD) : sProp 𝕄 :=
  iprop(∃ K, records m K ∗ (argsAt m c ∗ hold c main_v1 (m0 m c main_v1)) ∗ atPos ER (barC c) 0 ∅ 0 ∗ starts c ∗ payToks c ∗ dues c ∗ offs c)
/-- and ends with. -/
def finish (c : Dev nD) : sProp 𝕄 :=
  iprop((argsAt m c ∗ hold c main_v1 (vOut m)) ∗ semVal (barC c) 0 ∗ bigSep Finset.univ fun i : Fin 22 => semVal ((c : Thread nD τ), .dma i) 0)

def Φ₀ (c : Dev nD) : sProp 𝕄 := iprop(start m c ∗ scr c)
def Φ₁ (c : Dev nD) : sProp 𝕄 := iprop(finish m c ∗ scr c)

/-- The parts of the two projections' arguments the kernel does not load. -/
def unread (c : Dev nD) : sProp 𝕄 :=
  iprop(holdOn c main_arg2 (Finset.univ \ (wkC c).view.set) (m0 m c main_arg2) ∗ holdOn c main_arg3 (Finset.univ \ (wvC c).view.set) (m0 m c main_arg3))

omit [FloatOps F] in
theorem cut_wk (c : Dev nD) (f : Buf (Elt F) ((c : Thread nD τ).loc main_arg2)) :
    (hold c main_arg2 f : sProp 𝕄) ⊣⊢ iprop(holdOn c main_arg2 (wkC c).view.set f ∗ holdOn c main_arg2 (Finset.univ \ (wkC c).view.set) f) :=
  pointsTo_split_subset (Finset.subset_univ _)
omit [FloatOps F] in
theorem cut_wv (c : Dev nD) (f : Buf (Elt F) ((c : Thread nD τ).loc main_arg3)) :
    (hold c main_arg3 f : sProp 𝕄) ⊣⊢ iprop(holdOn c main_arg3 (wvC c).view.set f ∗ holdOn c main_arg3 (Finset.univ \ (wvC c).view.set) f) :=
  pointsTo_split_subset (Finset.subset_univ _)

/-- What the launch gives is what the body starts with, -/
theorem enter (c : Dev nD) :
    iprop(Ow c (owed0 c) ∗ (argsAt m c ∗ hold c main_v1 (m0 m c main_v1)) ∗ atPos ER (barC c) 0 ∅ 0 ∗ starts c ∗ payToks c ∗ dues c ∗ scr c)
      ⊢ iprop(bodyIn m c ∗ unread m c) := by
  unfold argsAt payToks sigToks inToks scr
  iintro ⟨HO, ⟨⟨Hx, Hq, Hk, Hv, Ho⟩, Hr⟩, HaB, Ha, ⟨⟨Ht0, Ht1, Ht2⟩, ⟨⟨Hi0, Hi1, Hi2, Hi3⟩, Hi4⟩, HT⟩, Hd,
    ⟨Hs0, Hs1, Hs2, Hs3, Hs4, Hs5, ⟨%f6, Hs6⟩, Hs7⟩⟩
  ihave Hk := (cut_wk c (m0 m c main_arg2)).1 $$ Hk
  icases Hk with ⟨Hk, Hk'⟩
  ihave Hv := (cut_wv c (m0 m c main_arg3)).1 $$ Hv
  icases Hv with ⟨Hv, Hv'⟩
  ihave Hr := (Entails.of_eq (cut_o c c (m0 m c main_v1))) $$ Hr
  icases Hr with ⟨Hr, Hr0, Hr1, Hr2⟩
  ihave Hs6 := (Entails.of_eq (cut_rs c f6)) $$ Hs6
  icases Hs6 with ⟨Hl0, Hl1, Hl2, Hl3⟩
  unfold bodyIn loads signals scratch unread
  isplitr [Hk' Hv']
  · isplitl [HO]; · iexact HO
    isplitl [Hx Hq Hk Hv Ho Hi0 Hi1 Hi2 Hi3 Hi4 Hs0 Hs1 Hs2 Hs3 Hs4]
    · unfold inPre
      isplitl [Hx Hs0 Hi0]
      · isplitl [Hx]; · iexact Hx
        isplitl [Hs0] <;> iassumption
      isplitl [Hq Hs1 Hi1]
      · isplitl [Hq]; · iexact Hq
        isplitl [Hs1] <;> iassumption
      isplitl [Hk Hs3 Hi2]
      · isplitl [Hk]; · iexact Hk
        isplitl [Hs3] <;> iassumption
      isplitl [Hv Hs4 Hi3]
      · isplitl [Hv]; · iexact Hv
        isplitl [Hs4] <;> iassumption
      isplitl [Ho]; · iexact Ho
      isplitl [Hs2] <;> iassumption
    isplitl [Ht0 Ht1 Ht2 Hr0 Hr1 Hr2 Hl1 Hl2 Hl3]
    · unfold sigPre
      isplitl [Ht0 Hr0 Hl3]
      · isplitl [Ht0]; · iexact Ht0
        isplitl [Hl3]
        · iexists f6; iexact Hl3
        iexists _; iexact Hr0
      isplitl [Ht1 Hr1 Hl2]
      · isplitl [Ht1]; · iexact Ht1
        isplitl [Hl2]
        · iexists f6; iexact Hl2
        iexists _; iexact Hr1
      isplitl [Ht2]; · iexact Ht2
      isplitl [Hl1]
      · iexists f6; iexact Hl1
      iexists _; iexact Hr2
    isplitl [HaB]; · iexact HaB
    isplitl [Ha]; · iexact Ha
    isplitl [Hd]; · iexact Hd
    isplitl [HT]; · iexact HT
    isplitl [Hs5]; · iexact Hs5
    isplitl [Hl0]
    · iexists f6; iexact Hl0
    isplitl [Hs7]; · iexact Hs7
    iexists _; iexact Hr
  · isplitl [Hk'] <;> iassumption

/-- and what the body ends with makes up the arrays and the counters again. -/
theorem leave (c : Dev nD) : iprop(bodyOut m c ∗ unread m c ∗ offs c) ⊢ iprop(Ow c [] ∗ Φ₁ m c) := by
  unfold bodyOut came unread offs
  iintro ⟨⟨HO, ⟨⟨HI0, Hz0⟩, ⟨HI1, Hz1⟩, ⟨HI2, Hz2⟩, ⟨HI3, Hz3⟩, ⟨HI4, Hz4⟩⟩, ⟨Hout, Hz5⟩,
    ⟨⟨HS0, Hz7⟩, ⟨HS1, Hz8⟩, ⟨HS2, Hz9⟩⟩, ⟨⟨HR0, Hz11⟩, ⟨HR1, Hz12⟩, ⟨HR2, Hz13⟩⟩,
    ⟨⟨HA0, Hz15⟩, ⟨HA1, Hz16⟩, ⟨HA2, Hz17⟩⟩, ⟨⟨HG0, Hz19⟩, ⟨HG1, Hz20⟩, ⟨HG2, Hz21⟩⟩, Hp, Hl, HzB⟩, ⟨Hk', Hv'⟩, ⟨Hz6, Hz10, Hz14, Hz18⟩⟩
  unfold pay inPay
  icases HI0 with ⟨Hs0, Hx⟩
  icases HI1 with ⟨Hs1, Hq⟩
  icases HI2 with ⟨Hs3, Hk⟩
  icases HI3 with ⟨Hs4, Hv⟩
  icases HI4 with ⟨Hs2, Ho⟩
  icases Hout with ⟨Hr, HA⟩
  ihave Hk := (cut_wk c (m0 m c main_arg2)).2 $$ [Hk Hk']
  · isplitl [Hk] <;> iassumption
  ihave Hv := (cut_wv c (m0 m c main_arg3)).2 $$ [Hv Hv']
  · isplitl [Hv] <;> iassumption
  ihave Hr := (Entails.of_eq (cut_o c c (vOut m)).symm) $$ [Hr HG0 HG1 HG2]
  · isplitl [Hr]; · iexact Hr
    isplitl [HG2]; · iexact HG2
    isplitl [HG1]; · iexact HG1
    iexact HG0
  ihave Hs5 := (Entails.of_eq (cut_p c (vP m c)).symm) $$ [Hp HS0 HS1 HS2]
  · isplitl [Hp]; · iexact Hp
    isplitl [HS0]; · iexact HS0
    isplitl [HS1]; · iexact HS1
    iexact HS2
  ihave Hs6 := (Entails.of_eq (cut_rs c (vRs m c)).symm) $$ [Hl HR0 HR1 HR2]
  · isplitl [Hl]; · iexact Hl
    isplitl [HR0]; · iexact HR0
    isplitl [HR1]; · iexact HR1
    iexact HR2
  ihave Hs7 := (lend m c).2 $$ [HA HA0 HA1 HA2]
  · isplitl [HA HA0]
    · isplitl [HA]; · iexact HA
      iexact HA0
    isplitl [HA1]; · iexact HA1
    iexact HA2
  unfold Φ₁ finish argsAt scr
  isplitl [HO]; · iexact HO
  isplitr [Hs0 Hs1 Hs2 Hs3 Hs4 Hs5 Hs6 Hs7]
  · isplitl [Hx Hq Hk Hv Ho Hr]
    · isplitr [Hr]
      · isplitl [Hx]; · iexact Hx
        isplitl [Hq]; · iexact Hq
        isplitl [Hk]; · iexact Hk
        isplitl [Hv]; · iexact Hv
        iexact Ho
      · iexact Hr
    isplitl [HzB]; · iexact HzB
    iapply (by_use (fun i => (semVal ((c : Thread nD τ), .dma i) 0 : sProp 𝕄))).2
    isplitr [Hz6 Hz10 Hz14 Hz18]
    · isplitl [Hz0 Hz1 Hz2 Hz3]
      · isplitl [Hz0]; · iexact Hz0
        isplitl [Hz1]; · iexact Hz1
        isplitl [Hz2]; · iexact Hz2
        iexact Hz3
      isplitl [Hz4]; · iexact Hz4
      isplitl [Hz5]; · iexact Hz5
      isplitl [Hz7 Hz8 Hz9]
      · isplitl [Hz7]; · iexact Hz7
        isplitl [Hz8]; · iexact Hz8
        iexact Hz9
      isplitl [Hz11 Hz12 Hz13]
      · isplitl [Hz11]; · iexact Hz11
        isplitl [Hz12]; · iexact Hz12
        iexact Hz13
      isplitl [Hz15 Hz16 Hz17]
      · isplitl [Hz15]; · iexact Hz15
        isplitl [Hz16]; · iexact Hz16
        iexact Hz17
      isplitl [Hz19]; · iexact Hz19
      isplitl [Hz20]; · iexact Hz20
      iexact Hz21
    · isplitl [Hz6]; · iexact Hz6
      isplitl [Hz10]; · iexact Hz10
      isplitl [Hz14] <;> iassumption
  · isplitl [Hs0]
    · iexists _; iexact Hs0
    isplitl [Hs1]
    · iexists _; iexact Hs1
    isplitl [Hs2]
    · iexists _; iexact Hs2
    isplitl [Hs3]
    · iexists _; iexact Hs3
    isplitl [Hs4]
    · iexists _; iexact Hs4
    isplitl [Hs5]
    · iexists _; iexact Hs5
    isplitl [Hs6]
    · iexists _; iexact Hs6
    iexists _; iexact Hs7

/-! ## The launch theorem's data -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := w.elim0

omit [FloatOps F] in
theorem no_windows (Φ : Fin cfg0.W → sProp (MT nD τ sig Unit (Elt F) ℕ UU ℕ)) : bigSep Finset.univ Φ = (BI.emp : sProp 𝕄) :=
  bigSep_univ_eq_bigSepL [] (by decide) (by decide) Φ

set_option maxRecDepth 8000 in
/-- The body of every device is right. -/
theorem body_obligation (c : Dev nD) : BodyObligation (dats (F := F) m 0 c) (defs₀ (F := F)) 𝒱₀ () Set.univ := fun t => by
  rw [fin_N0 t, no_windows, no_windows]
  show iprop(Φ₀ m c ∗ (dats m 0 c).owesAt () t0_0.castSucc ∗ BI.emp)
    ⊢ WP c (bodyAt0 (F := F) t0_0) (fun _ => iprop(Φ₁ m c ∗ (dats m 0 c).owesAt () t0_0.succ ∗ BI.emp))
  unfold Dat.owesAt Pipeline.owesWithin
  rw [show (dats m 0 c).owed t0_0.castSucc = owing (owed0 c) from rfl, show (dats m 0 c).owed t0_0.succ = owing [] from rfl]
  unfold Φ₀ start
  iintro ⟨⟨⟨%K, #HR, Hargs, HaB, Ha, HT, Hd, Hz⟩, Hscr⟩, ⟨%W, %hW, HO⟩, -⟩
  ihave H := (enter m c) $$ [HO Hargs HaB Ha HT Hd Hscr]
  · isplitl [HO]
    · unfold Ow; iexists W; iexact HO
    isplitl [Hargs]; · iexact Hargs
    isplitl [HaB]; · iexact HaB
    isplitl [Ha]; · iexact Ha
    isplitl [HT]; · iexact HT
    isplitl [Hd] <;> iassumption
  icases H with ⟨Hin, Hun⟩
  iapply (body m K c t0_0 _) $$ [Hin]
  · isplitr; · iexact HR
    iexact Hin
  iintro Hout
  ihave H := (leave m c) $$ [Hout Hun Hz]
  · isplitl [Hout]; · iexact Hout
    isplitl [Hun] <;> iassumption
  unfold Ow
  icases H with ⟨⟨%W', HO⟩, HF⟩
  isplitl [HF]; · iexact HF
  isplitl [HO]
  · iexists W'
    isplitr
    · ipureintro; exact fun _ _ => Or.inl trivial
    iexact HO
  · iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨H0, H1, H2, H3, H4, Hr⟩, #Hlev, Hcr, -, ⟨%K, #HK, Hat, HT⟩⟩
  ihave Hd := (creds (F := F) c) $$ Hcr
  ihave #HR := (known_records m K) $$ []
  · isplitr; · iexact HK
    iexact Hlev
  unfold places
  ihave Hat := (Entails.of_eq (all_sems (fun s => (atPos ER (kcell (c, s)) 0 ∅ 0 : sProp 𝕄)))) $$ Hat
  icases Hat with ⟨HaB, Hat⟩
  ihave Hat := (by_use (fun i => (atPos ER (kcell (c, .dma i)) 0 ∅ 0 : sProp 𝕄))).1 $$ Hat
  icases Hat with ⟨Ha, ⟨Ha6, Ha10, Ha14, Ha18⟩⟩
  imod (Rounds.cell_close ER (sched m) (Set.mem_univ (K (c, .dma (6 : Fin 22)))) (fun h => h) (R := 0) (duties_off m c 6 (by decide))) $$ [Ha6] with Hz6
  · isplitr; · iapply (records_inv m K (c, .dma (6 : Fin 22))); iexact HR
    iexact Ha6
  imod (Rounds.cell_close ER (sched m) (Set.mem_univ (K (c, .dma (10 : Fin 22)))) (fun h => h) (R := 0) (duties_off m c 10 (by decide))) $$ [Ha10] with Hz10
  · isplitr; · iapply (records_inv m K (c, .dma (10 : Fin 22))); iexact HR
    iexact Ha10
  imod (Rounds.cell_close ER (sched m) (Set.mem_univ (K (c, .dma (14 : Fin 22)))) (fun h => h) (R := 0) (duties_off m c 14 (by decide))) $$ [Ha14] with Hz14
  · isplitr; · iapply (records_inv m K (c, .dma (14 : Fin 22))); iexact HR
    iexact Ha14
  imod (Rounds.cell_close ER (sched m) (Set.mem_univ (K (c, .dma (18 : Fin 22)))) (fun h => h) (R := 0) (duties_off m c 18 (by decide))) $$ [Ha18] with Hz18
  · isplitr; · iapply (records_inv m K (c, .dma (18 : Fin 22))); iexact HR
    iexact Ha18
  imodintro
  unfold start argsAt offs starts
  isplitl
  · iexists K
    isplitr; · iexact HR
    isplitl [H0 H1 H2 H3 H4 Hr]
    · isplitr [Hr]
      · isplitl [H0]; · iexact H0
        isplitl [H1]; · iexact H1
        isplitl [H2]; · iexact H2
        isplitl [H3] <;> iassumption
      · iexact Hr
    isplitl [HaB]; · iexact HaB
    isplitl [Ha]; · iexact Ha
    isplitl [HT]; · iexact HT
    isplitl [Hd]; · iexact Hd
    isplitl [Hz6]; · iexact Hz6
    isplitl [Hz10]; · iexact Hz10
    isplitl [Hz14] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What is read at the end. -/
def atEnd (c : Dev nD) : sProp 𝕄 := iprop((argsAt m c ∗ hold c main_v1 (vOut m)) ∗ unscopedSems0 c)

theorem phi1_exit (c : Dev nD) :
    (dats m 0 c).Φ (Fin.last cfg0.N) ⊢ iprop(atEnd m c ∗ Pipeline.ownSems0 osem c ∗ Pipeline.scopedRest cfg0.spec c) := by
  rw [show (dats m 0 c).Φ (Fin.last cfg0.N) = Φ₁ m c from rfl, scopedRest0_eq, ownSems0_eq]
  unfold Φ₁ finish scr atEnd
  rw [unscopedSems0_eq]
  iintro ⟨⟨HA, HzB, Hz⟩, Hr⟩
  isplitl [HA HzB]
  · isplitl [HA] <;> iassumption
  isplitl [Hz] <;> iassumption

theorem waits (c : Dev nD) : (levAts L lv : sProp 𝕄) ⊢ Pipeline.cellsWaits cfgs (dats m) () 0 c :=
  Pipeline.cellsWaits_intro cfgs (dats m) () 0 c fun w s t => w.elim0

/-- What a device's memory holds after the run: the arguments as launched, the result, counters at zero. -/
def QEnd (c : Dev nD) (s : MemSt nD τ sig (Elt F)) : Prop :=
  (s.mem ((c : Thread nD τ).loc main_arg0) = m0 m c main_arg0 ∧ s.mem ((c : Thread nD τ).loc main_arg1) = m0 m c main_arg1
    ∧ s.mem ((c : Thread nD τ).loc main_arg2) = m0 m c main_arg2 ∧ s.mem ((c : Thread nD τ).loc main_arg3) = m0 m c main_arg3
    ∧ s.mem ((c : Thread nD τ).loc main_arg4) = m0 m c main_arg4 ∧ s.mem ((c : Thread nD τ).loc main_v1) = vOut m)
  ∧ ∀ sm : SemLoc sig, sm.isScoped .tc = false → s.sem ((c.tc : Thread nD τ), sm) = 0

theorem read_end (c : Dev nD) (s' : Phys nD τ sig (Elt F)) :
    iprop(atEnd m c ∗ (BI.emp : sProp 𝕄) ∗ SI s') ⊢ |={Set.univ}=> iprop(⌜QEnd m c s'.mem⌝ ∗ SI s') := by
  unfold atEnd argsAt
  iintro ⟨⟨⟨⟨H0, H1, H2, H3, H4⟩, Hr⟩, Hu⟩, -, HSI⟩
  icombine HSI H0 gives %h0
  icombine HSI H1 gives %h1
  icombine HSI H2 gives %h2
  icombine HSI H3 gives %h3
  icombine HSI H4 gives %h4
  icombine HSI Hr gives %hr
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => h0 i (Finset.mem_univ i), funext fun i => h1 i (Finset.mem_univ i), funext fun i => h2 i (Finset.mem_univ i),
      funext fun i => h3 i (Finset.mem_univ i), funext fun i => h4 i (Finset.mem_univ i), funext fun i => hr i (Finset.mem_univ i)⟩, hs⟩
  iexact HSI

set_option maxRecDepth 8000 in
/-- Every fair run of the four devices from counters at zero ends, and then every device has its arguments as launched, the
    result at the summed chunks, and every counter of the machine is zero. -/
theorem run_main : θ_run defs (onTc (τ := τ) (main (F := F))) (s₀ m ρ) (fun r => (∀ c, QEnd m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := atEnd m) (Z := fun _ => iprop(emp))
    (hX := start_intro m ρ) (hin := phi0_intro m) (hout := phi1_exit m)
    (QY := QEnd m) (hY := read_end m)
    (hQ := fun _ h hs => ⟨fun c => (h c).2.2, sem_eq_zero hs fun c => (h c).2.2.2⟩)

end Cert.KernelIdealProof

end
-- ==== Proof.Frames.lean ====
/-
# The frame claims

The kernel as printed, the kernel read in exact numbers and the reference run to an end, leave their arguments alone and
leave every counter at zero.
-/
module

public import proofs.«01_k».proof.Defs
public import proofs.«01_k».proof.Proof.Kern.Launch
public import proofs.«01_k».proof.Proof.KernIdeal.Launch
public import proofs.«01_k».proof.Proof.Gen.ReferenceIdeal.Run
public import Idealize.ShloMosaic.Lib.Quiescent

@[expose] public section

noncomputable section

namespace Cert.Claims

open Idealize.ShloMosaic Idealize.SL.Sem

/-- The kernel on bits: every fair run ends with the arguments unchanged and the counters at zero. -/
theorem frame_kernel : quiescent_Kernel (hKernel := Cert.Kernel.Gen.facts) := fun m g _ =>
  (θ_run Cert.Kernel.defs _ _).mono (fun r h => ⟨fun c => by
      obtain ⟨⟨h0, h1, h2, h3, h4, -⟩, -⟩ := h.1 c
      exact ⟨h0, h1, h2, h3, h4⟩, h.2⟩)
    (Cert.KernelProof.run_main (F := Bits) m g)

/-- The same in exact numbers. -/
theorem frame_ideal : quiescent_KernelIdeal (hKernelIdeal := Cert.KernelIdeal.Gen.facts) := fun m g _ =>
  (θ_run Cert.KernelIdeal.defs _ _).mono (fun r h => ⟨fun c => by
      obtain ⟨⟨h0, h1, h2, h3, h4, -⟩, -⟩ := h.1 c
      exact ⟨h0, h1, h2, h3, h4⟩, h.2⟩)
    (Cert.KernelIdealProof.run_main (F := Ideal) m g)

/-- The reference in exact numbers; it has no counters. -/
theorem frame_reference : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Claims

end
-- ==== Proof.Value.Att.lean ====
/-
# Attention of one query row, and one device's partial product in exact numbers

The kernel and the reference compute the same scaled softmax attention; the kernel stacks the four query heads that
share a key head on the row axis. This module states the attention of one query row as a function of plain coordinates
and reads the kernel's partial product through it.
-/
module

public import proofs.«01_k».proof.Proof.KernIdeal.Geo
public import Idealize.ShloMosaic.Lib.Pointwise

@[expose] public section

noncomputable section

namespace Cert.Value

open Idealize.ShloMosaic Cert.KernelIdeal Cert.KernelIdeal.Gen

/-- The scaled product of a query row with key row `j`. -/
def score (q : Fin 64 → EReal) (k : Fin 128 → Fin 64 → EReal) (j : Fin 128) : EReal :=
  (∑ e, q e * k j e) * Ideal.ofBits .f32 0x3E000000#32

/-- The greatest of the scores, no less than the word for minus infinity. -/
def top (q : Fin 64 → EReal) (k : Fin 128 → Fin 64 → EReal) : EReal :=
  Finset.univ.fold max (Ideal.ofBits .f32 0xFF800000#32) fun j => score q k j

/-- The weight of key row `j` before normalisation. -/
def weight (q : Fin 64 → EReal) (k : Fin 128 → Fin 64 → EReal) (j : Fin 128) : EReal :=
  Ideal.exp (score q k j - top q k)

/-- The attention of a query row over 128 key and value rows, at coordinate `d`. -/
def att (q : Fin 64 → EReal) (k v : Fin 128 → Fin 64 → EReal) (d : Fin 64) : EReal :=
  Ideal.div (∑ j, weight q k j * v j d) (∑ j, weight q k j)

set_option maxRecDepth 16384 in
/-- Row `r` of a stack of query heads: its attention. -/
theorem stack_apply (q : FVec Ideal S512x64 .f32) (k v : FVec Ideal S128x64 .f32) (r : Fin 512) (d : Fin 64) :
    k0_pay8 q k v (constant S512x128 .f32 0x00000000#32) (ix2 r d)
      = att (fun e => q (ix2 r e)) (fun j e => k (ix2 j e)) (fun j e => v (ix2 j e)) d := by
  pointwise [k0_pay8]
  rfl

/-- The four query heads of batch entry `b` that share key head `g`, one below the other. -/
def qStack (Q : FVec Ideal S256x512 .f32) (b g : Fin 2) : FVec Ideal S512x64 .f32 := fun i =>
  Q (ix2 ⟨128 * b.val + (i 0).val % 128, by omega⟩
    ⟨256 * g.val + 64 * ((i 0).val / 128) + (i 1).val, by
      have h0 : (i 0).val < 512 := (i 0).isLt
      have h1 : (i 1).val < 64 := (i 1).isLt
      omega⟩)

/-- Key (or value) head `g` of batch entry `b`. -/
def kvHead (K : FVec Ideal S256x128 .f32) (b g : Fin 2) : FVec Ideal S128x64 .f32 := fun i =>
  K (ix2 ⟨128 * b.val + (i 0).val, by have h0 : (i 0).val < 128 := (i 0).isLt; omega⟩
    ⟨64 * g.val + (i 1).val, by have h1 : (i 1).val < 64 := (i 1).isLt; omega⟩)

/-- The attention of the stack of batch entry `b` and key head `g`. -/
def grp (Q : FVec Ideal S256x512 .f32) (K V : FVec Ideal S256x128 .f32) (b g : Fin 2) : FVec Ideal S512x64 .f32 :=
  k0_pay8 (qStack Q b g) (kvHead K b g) (kvHead V b g) (constant S512x128 .f32 0x00000000#32)

/-! ## The kernel's slices are these stacks and heads -/

set_option maxRecDepth 16384 in
/-- The four slices of batch entry 0 and key head 0, joined. -/
theorem qStack_00 (Q : FVec Ideal S256x512 .f32) :
    concatenate S512x64 0 [⟨S128x64, extractStridedSlice S128x64 ![0, 0] Q slices_S256x512_o0_0_S128x64⟩, ⟨S128x64, extractStridedSlice S128x64 ![0, 64] Q slices_S256x512_o0_64_S128x64⟩, ⟨S128x64, extractStridedSlice S128x64 ![0, 128] Q slices_S256x512_o0_128_S128x64⟩, ⟨S128x64, extractStridedSlice S128x64 ![0, 192] Q slices_S256x512_o0_192_S128x64⟩] concatenates_S128x64_S128x64_S128x64_S128x64_S512x64_d0
      = qStack Q 0 0 := by
  funext i
  idx_vars i
  pointwise [qStack]
  split_ifs <;> congr 3 <;> omega

set_option maxRecDepth 16384 in
/-- The slice of batch entry 0 and key head 0. -/
theorem kvHead_00 (K : FVec Ideal S256x128 .f32) :
    extractStridedSlice S128x64 ![0, 0] K slices_S256x128_o0_0_S128x64 = kvHead K 0 0 := by
  funext i
  idx_vars i
  pointwise [kvHead]

set_option maxRecDepth 16384 in
/-- The four slices of batch entry 0 and key head 1, joined. -/
theorem qStack_01 (Q : FVec Ideal S256x512 .f32) :
    concatenate S512x64 0 [⟨S128x64, extractStridedSlice S128x64 ![0, 256] Q slices_S256x512_o0_256_S128x64⟩, ⟨S128x64, extractStridedSlice S128x64 ![0, 320] Q slices_S256x512_o0_320_S128x64⟩, ⟨S128x64, extractStridedSlice S128x64 ![0, 384] Q slices_S256x512_o0_384_S128x64⟩, ⟨S128x64, extractStridedSlice S128x64 ![0, 448] Q slices_S256x512_o0_448_S128x64⟩] concatenates_S128x64_S128x64_S128x64_S128x64_S512x64_d0
      = qStack Q 0 1 := by
  funext i
  idx_vars i
  pointwise [qStack]
  split_ifs <;> congr 3 <;> omega

set_option maxRecDepth 16384 in
/-- The slice of batch entry 0 and key head 1. -/
theorem kvHead_01 (K : FVec Ideal S256x128 .f32) :
    extractStridedSlice S128x64 ![0, 64] K slices_S256x128_o0_64_S128x64 = kvHead K 0 1 := by
  funext i
  idx_vars i
  pointwise [kvHead]

set_option maxRecDepth 16384 in
/-- The four slices of batch entry 1 and key head 0, joined. -/
theorem qStack_10 (Q : FVec Ideal S256x512 .f32) :
    concatenate S512x64 0 [⟨S128x64, extractStridedSlice S128x64 ![128, 0] Q slices_S256x512_o128_0_S128x64⟩, ⟨S128x64, extractStridedSlice S128x64 ![128, 64] Q slices_S256x512_o128_64_S128x64⟩, ⟨S128x64, extractStridedSlice S128x64 ![128, 128] Q slices_S256x512_o128_128_S128x64⟩, ⟨S128x64, extractStridedSlice S128x64 ![128, 192] Q slices_S256x512_o128_192_S128x64⟩] concatenates_S128x64_S128x64_S128x64_S128x64_S512x64_d0
      = qStack Q 1 0 := by
  funext i
  idx_vars i
  pointwise [qStack]
  split_ifs <;> congr 3 <;> omega

set_option maxRecDepth 16384 in
/-- The slice of batch entry 1 and key head 0. -/
theorem kvHead_10 (K : FVec Ideal S256x128 .f32) :
    extractStridedSlice S128x64 ![128, 0] K slices_S256x128_o128_0_S128x64 = kvHead K 1 0 := by
  funext i
  idx_vars i
  pointwise [kvHead]

set_option maxRecDepth 16384 in
/-- The four slices of batch entry 1 and key head 1, joined. -/
theorem qStack_11 (Q : FVec Ideal S256x512 .f32) :
    concatenate S512x64 0 [⟨S128x64, extractStridedSlice S128x64 ![128, 256] Q slices_S256x512_o128_256_S128x64⟩, ⟨S128x64, extractStridedSlice S128x64 ![128, 320] Q slices_S256x512_o128_320_S128x64⟩, ⟨S128x64, extractStridedSlice S128x64 ![128, 384] Q slices_S256x512_o128_384_S128x64⟩, ⟨S128x64, extractStridedSlice S128x64 ![128, 448] Q slices_S256x512_o128_448_S128x64⟩] concatenates_S128x64_S128x64_S128x64_S128x64_S512x64_d0
      = qStack Q 1 1 := by
  funext i
  idx_vars i
  pointwise [qStack]
  split_ifs <;> congr 3 <;> omega

set_option maxRecDepth 16384 in
/-- The slice of batch entry 1 and key head 1. -/
theorem kvHead_11 (K : FVec Ideal S256x128 .f32) :
    extractStridedSlice S128x64 ![128, 64] K slices_S256x128_o128_64_S128x64 = kvHead K 1 1 := by
  funext i
  idx_vars i
  pointwise [kvHead]

/-- The attention outputs of all eight heads, heads side by side and batch entries one below the other. -/
def oMat (Q : FVec Ideal S256x512 .f32) (K V : FVec Ideal S256x128 .f32) : FVec Ideal S256x512 .f32 :=
  concatenate S256x512 0
    [⟨S128x512, concatenate S128x512 1
      [⟨S128x64, extractStridedSlice S128x64 ![0, 0] (grp Q K V 0 0) slices_S512x64_o0_0_S128x64⟩,
       ⟨S128x64, extractStridedSlice S128x64 ![128, 0] (grp Q K V 0 0) slices_S512x64_o128_0_S128x64⟩,
       ⟨S128x64, extractStridedSlice S128x64 ![256, 0] (grp Q K V 0 0) slices_S512x64_o256_0_S128x64⟩,
       ⟨S128x64, extractStridedSlice S128x64 ![384, 0] (grp Q K V 0 0) slices_S512x64_o384_0_S128x64⟩,
       ⟨S128x64, extractStridedSlice S128x64 ![0, 0] (grp Q K V 0 1) slices_S512x64_o0_0_S128x64⟩,
       ⟨S128x64, extractStridedSlice S128x64 ![128, 0] (grp Q K V 0 1) slices_S512x64_o128_0_S128x64⟩,
       ⟨S128x64, extractStridedSlice S128x64 ![256, 0] (grp Q K V 0 1) slices_S512x64_o256_0_S128x64⟩,
       ⟨S128x64, extractStridedSlice S128x64 ![384, 0] (grp Q K V 0 1) slices_S512x64_o384_0_S128x64⟩]
      concatenates_S128x64_S128x64_S128x64_S128x64_S128x64_S128x64_S128x64_S128x64_S128x512_d1⟩,
     ⟨S128x512, concatenate S128x512 1
      [⟨S128x64, extractStridedSlice S128x64 ![0, 0] (grp Q K V 1 0) slices_S512x64_o0_0_S128x64⟩,
       ⟨S128x64, extractStridedSlice S128x64 ![128, 0] (grp Q K V 1 0) slices_S512x64_o128_0_S128x64⟩,
       ⟨S128x64, extractStridedSlice S128x64 ![256, 0] (grp Q K V 1 0) slices_S512x64_o256_0_S128x64⟩,
       ⟨S128x64, extractStridedSlice S128x64 ![384, 0] (grp Q K V 1 0) slices_S512x64_o384_0_S128x64⟩,
       ⟨S128x64, extractStridedSlice S128x64 ![0, 0] (grp Q K V 1 1) slices_S512x64_o0_0_S128x64⟩,
       ⟨S128x64, extractStridedSlice S128x64 ![128, 0] (grp Q K V 1 1) slices_S512x64_o128_0_S128x64⟩,
       ⟨S128x64, extractStridedSlice S128x64 ![256, 0] (grp Q K V 1 1) slices_S512x64_o256_0_S128x64⟩,
       ⟨S128x64, extractStridedSlice S128x64 ![384, 0] (grp Q K V 1 1) slices_S512x64_o384_0_S128x64⟩]
      concatenates_S128x64_S128x64_S128x64_S128x64_S128x64_S128x64_S128x64_S128x64_S128x512_d1⟩]
    concatenates_S128x512_S128x512_S256x512_d0

set_option maxRecDepth 16384 in
/-- The kernel's partial product is the product of those outputs with the device's rows of the output matrix. -/
theorem partialOf_eq (x : FVec Ideal S2x128x512 .f32) (wq wo : FVec Ideal S512x512 .f32) (wk wv : FVec Ideal S512x128 .f32) :
    Cert.KernelIdealProof.partialOf x wq wo wk wv
      = matmul dot_S256x512_S512x512_S256x512_1_0_0_1_n_n none
          (oMat (k0_pay2 (F := Ideal) x wq) (k0_pay3 (F := Ideal) x wk) (k0_pay4 (F := Ideal) x wv)) wo (constant S256x512 .f32 0x00000000#32) := by
  unfold Cert.KernelIdealProof.partialOf
  have e5 : k0_pay5 (F := Ideal) x wq = qStack (k0_pay2 (F := Ideal) x wq) 0 0 := qStack_00 _
  have e6 : k0_pay6 (F := Ideal) x wk = kvHead (k0_pay3 (F := Ideal) x wk) 0 0 := kvHead_00 _
  have e7 : k0_pay7 (F := Ideal) x wv = kvHead (k0_pay4 (F := Ideal) x wv) 0 0 := kvHead_00 _
  have e18 : k0_pay18 (F := Ideal) (k0_pay4 (F := Ideal) x wv) = kvHead (k0_pay4 (F := Ideal) x wv) 1 0 := kvHead_10 _
  rw [e5, e6, e7, e18]
  generalize k0_pay2 (F := Ideal) x wq = Q
  generalize k0_pay3 (F := Ideal) x wk = K
  generalize k0_pay4 (F := Ideal) x wv = V
  have e13 : k0_pay13 Q K V = grp Q K V 0 1 := by
    unfold grp
    rw [← qStack_01, ← kvHead_01, ← kvHead_01]
    rfl
  have e10 : grp Q K V 1 0 = k0_pay8
      (concatenate S512x64 0 [⟨S128x64, extractStridedSlice S128x64 ![128, 0] Q slices_S256x512_o128_0_S128x64⟩, ⟨S128x64, extractStridedSlice S128x64 ![128, 64] Q slices_S256x512_o128_64_S128x64⟩, ⟨S128x64, extractStridedSlice S128x64 ![128, 128] Q slices_S256x512_o128_128_S128x64⟩, ⟨S128x64, extractStridedSlice S128x64 ![128, 192] Q slices_S256x512_o128_192_S128x64⟩] concatenates_S128x64_S128x64_S128x64_S128x64_S512x64_d0)
      (extractStridedSlice S128x64 ![128, 0] K slices_S256x128_o128_0_S128x64) (kvHead V 1 0) (constant S512x128 .f32 0x00000000#32) := by
    unfold grp
    rw [← qStack_10, ← kvHead_10 K]
  have e11 : grp Q K V 1 1 = k0_pay8
      (concatenate S512x64 0 [⟨S128x64, extractStridedSlice S128x64 ![128, 256] Q slices_S256x512_o128_256_S128x64⟩, ⟨S128x64, extractStridedSlice S128x64 ![128, 320] Q slices_S256x512_o128_320_S128x64⟩, ⟨S128x64, extractStridedSlice S128x64 ![128, 384] Q slices_S256x512_o128_384_S128x64⟩, ⟨S128x64, extractStridedSlice S128x64 ![128, 448] Q slices_S256x512_o128_448_S128x64⟩] concatenates_S128x64_S128x64_S128x64_S128x64_S512x64_d0)
      (extractStridedSlice S128x64 ![128, 64] K slices_S256x128_o128_64_S128x64) (extractStridedSlice S128x64 ![128, 64] V slices_S256x128_o128_64_S128x64) (constant S512x128 .f32 0x00000000#32) := by
    unfold grp
    rw [← qStack_11, ← kvHead_11 K, ← kvHead_11 V]
  unfold oMat
  rw [← e13, e10, e11]
  exact shapeCast_self _ _

set_option maxRecDepth 16384 in
/-- What the joined outputs hold at row `R` and column `C`, from the projections `Q`, `K` and `V`. -/
def oAt (Q : FVec Ideal S256x512 .f32) (K V : FVec Ideal S256x128 .f32) (R : Fin 256) (C : Fin 512) : EReal :=
  att (fun e => Q (ix2 R ⟨64 * (C.val / 64) + e.val, by omega⟩))
    (fun j e => K (ix2 ⟨128 * (R.val / 128) + j.val, by omega⟩ ⟨64 * (C.val / 256) + e.val, by omega⟩))
    (fun j e => V (ix2 ⟨128 * (R.val / 128) + j.val, by omega⟩ ⟨64 * (C.val / 256) + e.val, by omega⟩))
    ⟨C.val % 64, Nat.mod_lt _ (by decide)⟩

/-- A stack's output, at the row and column where the joined outputs hold it. -/
theorem grp_at (Q : FVec Ideal S256x512 .f32) (K V : FVec Ideal S256x128 .f32) (b g : Fin 2) (r : Fin 512) (d : Fin 64)
    (R : Fin 256) (C : Fin 512) (hR : R.val = 128 * b.val + r.val % 128)
    (hC : C.val = 256 * g.val + 64 * (r.val / 128) + d.val) : grp Q K V b g (ix2 r d) = oAt Q K V R C := by
  unfold grp oAt
  rw [stack_apply]
  congr 1
  · funext e
    show Q (ix2 _ _) = _
    congr 2 <;> apply Fin.ext
    · exact hR.symm
    · show 256 * g.val + 64 * (r.val / 128) + e.val = 64 * (C.val / 64) + e.val
      omega
  · funext j e
    show K (ix2 _ _) = _
    congr 2 <;> apply Fin.ext
    · show 128 * b.val + j.val = 128 * (R.val / 128) + j.val
      omega
    · show 64 * g.val + e.val = 64 * (C.val / 256) + e.val
      omega
  · funext j e
    show V (ix2 _ _) = _
    congr 2 <;> apply Fin.ext
    · show 128 * b.val + j.val = 128 * (R.val / 128) + j.val
      omega
    · show 64 * g.val + e.val = 64 * (C.val / 256) + e.val
      omega
  · apply Fin.ext
    show d.val = C.val % 64
    omega

set_option maxRecDepth 16384 in
/-- The joined outputs at an index. -/
theorem oMat_apply (Q : FVec Ideal S256x512 .f32) (K V : FVec Ideal S256x128 .f32) (R : Fin 256) (C : Fin 512) :
    oMat Q K V (ix2 R C) = oAt Q K V R C := by
  have hg := grp_at Q K V
  unfold oMat
  generalize grp Q K V = G at hg
  pointwise []
  repeat' refine dite_eq_iff'.mpr ⟨fun h => ?_, fun h => ?_⟩
  all_goals
    refine hg _ _ _ _ _ _ ?_ ?_
    · show R.val = _ * _ + _ % 128
      simp only [Fin.val_zero, Fin.val_one]
      omega
    · show C.val = 256 * _ + 64 * (_ / 128) + _
      simp only [Fin.val_zero, Fin.val_one]
      omega

set_option maxRecDepth 16384 in
/-- The partial product at an index. -/
theorem partialOf_apply (x : FVec Ideal S2x128x512 .f32) (wq wo : FVec Ideal S512x512 .f32) (wk wv : FVec Ideal S512x128 .f32)
    (R : Fin 256) (n : Fin 512) :
    Cert.KernelIdealProof.partialOf (F := Ideal) x wq wo wk wv (ix2 R n)
      = ∑ C : Fin 512, oAt (k0_pay2 (F := Ideal) x wq) (k0_pay3 (F := Ideal) x wk) (k0_pay4 (F := Ideal) x wv) R C * wo (ix2 C n) := by
  rw [partialOf_eq]
  pointwise [oMat_apply]

set_option maxRecDepth 16384 in
/-- The query projection at an index. -/
theorem pay2_apply (x : FVec Ideal S2x128x512 .f32) (w : FVec Ideal S512x512 .f32) (R : Fin 256) (C : Fin 512) :
    k0_pay2 (F := Ideal) x w (ix2 R C)
      = ∑ k : Fin 512, x (ix3 ⟨R.val / 128, by omega⟩ ⟨R.val % 128, by omega⟩ k) * w (ix2 k C) := by
  pointwise [k0_pay2, k0_pay1]

set_option maxRecDepth 16384 in
/-- The key projection at an index. -/
theorem pay3_apply (x : FVec Ideal S2x128x512 .f32) (w : FVec Ideal S512x128 .f32) (R : Fin 256) (C : Fin 128) :
    k0_pay3 (F := Ideal) x w (ix2 R C)
      = ∑ k : Fin 512, x (ix3 ⟨R.val / 128, by omega⟩ ⟨R.val % 128, by omega⟩ k) * w (ix2 k C) := by
  pointwise [k0_pay3, k0_pay1]

set_option maxRecDepth 16384 in
/-- The value projection at an index. -/
theorem pay4_apply (x : FVec Ideal S2x128x512 .f32) (w : FVec Ideal S512x128 .f32) (R : Fin 256) (C : Fin 128) :
    k0_pay4 (F := Ideal) x w (ix2 R C)
      = ∑ k : Fin 512, x (ix3 ⟨R.val / 128, by omega⟩ ⟨R.val % 128, by omega⟩ k) * w (ix2 k C) := by
  pointwise [k0_pay4, k0_pay1]

end Cert.Value
end
-- ==== Proof.Value.Whole.lean ====
/-
# The kernel's result as a function of the whole arrays

Device `c` holds 512 columns of the query weights and the 512 rows of the output weights that go with them, and reads
128 columns of the key and value weights: eight of the 32 query heads and two of the eight key heads. Read through the
whole arrays its partial product sums columns `512 c` to `512 c + 511` of the attention outputs, so the four partial
products sum all 2048 of them.
-/
module

public import proofs.«01_k».proof.Proof.Value.Att
public import Idealize.ShloMosaic.Lib.Pointwise.IndexBridge
public import Idealize.ShloMosaic.Lib.Pipeline.ValueKit.Acc
public import Idealize.ShloMosaic.Lib.Layout

@[expose] public section

noncomputable section

namespace Cert.Value

open Idealize.ShloMosaic Cert.KernelIdeal Cert.KernelIdeal.Gen

/-- The whole query weights' and output weights' shapes. -/
abbrev SWq : Shape := ⟨2, ![512, 2048]⟩
abbrev SWo : Shape := ⟨2, ![2048, 512]⟩

section Math

variable (X : FVec Ideal S2x128x512 .f32) (Wq : FVec Ideal SWq .f32) (Wk Wv : FVec Ideal S512x512 .f32)
  (Wo : FVec Ideal SWo .f32)

/-- The attention output of batch entry `b`, row `i`, at column `t` of 2048: head `t / 64`, coordinate `t % 64`. -/
def outAt (b : Fin 2) (i : Fin 128) (t : Fin 2048) : EReal :=
  att (fun e => ∑ k : Fin 512, X (ix3 b i k) * Wq (ix2 k ⟨64 * (t.val / 64) + e.val, by omega⟩))
    (fun j e => ∑ k : Fin 512, X (ix3 b j k) * Wk (ix2 k ⟨64 * (t.val / 256) + e.val, by omega⟩))
    (fun j e => ∑ k : Fin 512, X (ix3 b j k) * Wv (ix2 k ⟨64 * (t.val / 256) + e.val, by omega⟩))
    ⟨t.val % 64, Nat.mod_lt _ (by decide)⟩

/-- The result: the attention outputs times the output weights. -/
def whole (b : Fin 2) (i : Fin 128) (n : Fin 512) : EReal := ∑ t : Fin 2048, outAt X Wq Wk Wv b i t * Wo (ix2 t n)

/-- The part of the result that device `c`'s 512 columns contribute. -/
def part (c : Fin 4) (b : Fin 2) (i : Fin 128) (n : Fin 512) : EReal :=
  ∑ C : Fin 512, outAt X Wq Wk Wv b i ⟨c.val * 512 + C.val, by omega⟩ * Wo (ix2 ⟨c.val * 512 + C.val, by omega⟩ n)

/-- The four parts make the whole. -/
theorem sum_part (b : Fin 2) (i : Fin 128) (n : Fin 512) :
    ∑ c : Fin 4, part X Wq Wk Wv Wo c b i n = whole X Wq Wk Wv Wo b i n :=
  Fin.sum_mul_add_fin 4 512 fun t : Fin 2048 => outAt X Wq Wk Wv b i t * Wo (ix2 t n)

variable {X Wq Wk Wv Wo}

/-- One device's joined outputs, from its parts of the whole weights. -/
theorem oAt_eq (c : Fin 4) (x : FVec Ideal S2x128x512 .f32) (wq : FVec Ideal S512x512 .f32) (wk wv : FVec Ideal S512x128 .f32)
    (hx : x = X) (hq : ∀ k C : Fin 512, wq (ix2 k C) = Wq (ix2 k ⟨c.val * 512 + C.val, by omega⟩))
    (hk : ∀ (k : Fin 512) (C : Fin 128), wk (ix2 k C) = Wk (ix2 k ⟨128 * c.val + C.val, by omega⟩))
    (hv : ∀ (k : Fin 512) (C : Fin 128), wv (ix2 k C) = Wv (ix2 k ⟨128 * c.val + C.val, by omega⟩))
    (R : Fin 256) (C : Fin 512) :
    oAt (k0_pay2 (F := Ideal) x wq) (k0_pay3 (F := Ideal) x wk) (k0_pay4 (F := Ideal) x wv) R C
      = outAt X Wq Wk Wv ⟨R.val / 128, by omega⟩ ⟨R.val % 128, by omega⟩ ⟨c.val * 512 + C.val, by omega⟩ := by
  subst hx
  unfold oAt outAt
  congr 1
  · funext e
    rw [pay2_apply]
    refine Finset.sum_congr rfl fun k _ => ?_
    rw [hq]
    congr 4
    show c.val * 512 + (64 * (C.val / 64) + e.val) = 64 * ((c.val * 512 + C.val) / 64) + e.val
    omega
  · funext j e
    rw [pay3_apply]
    refine Finset.sum_congr rfl fun k _ => ?_
    rw [hk]
    congr 4
    · show (128 * (R.val / 128) + j.val) / 128 = R.val / 128
      omega
    · show (128 * (R.val / 128) + j.val) % 128 = j.val
      omega
    · show 128 * c.val + (64 * (C.val / 256) + e.val) = 64 * ((c.val * 512 + C.val) / 256) + e.val
      omega
  · funext j e
    rw [pay4_apply]
    refine Finset.sum_congr rfl fun k _ => ?_
    rw [hv]
    congr 4
    · show (128 * (R.val / 128) + j.val) / 128 = R.val / 128
      omega
    · show (128 * (R.val / 128) + j.val) % 128 = j.val
      omega
    · show 128 * c.val + (64 * (C.val / 256) + e.val) = 64 * ((c.val * 512 + C.val) / 256) + e.val
      omega
  · apply Fin.ext
    show C.val % 64 = (c.val * 512 + C.val) % 64
    omega

/-- One device's partial product is its part of the result. -/
theorem partialOf_part (c : Fin 4) (x : FVec Ideal S2x128x512 .f32) (wq wo : FVec Ideal S512x512 .f32) (wk wv : FVec Ideal S512x128 .f32)
    (hx : x = X) (hq : ∀ k C : Fin 512, wq (ix2 k C) = Wq (ix2 k ⟨c.val * 512 + C.val, by omega⟩))
    (hk : ∀ (k : Fin 512) (C : Fin 128), wk (ix2 k C) = Wk (ix2 k ⟨128 * c.val + C.val, by omega⟩))
    (hv : ∀ (k : Fin 512) (C : Fin 128), wv (ix2 k C) = Wv (ix2 k ⟨128 * c.val + C.val, by omega⟩))
    (ho : ∀ C n : Fin 512, wo (ix2 C n) = Wo (ix2 ⟨c.val * 512 + C.val, by omega⟩ n))
    (R : Fin 256) (n : Fin 512) :
    Cert.KernelIdealProof.partialOf (F := Ideal) x wq wo wk wv (ix2 R n)
      = part X Wq Wk Wv Wo c ⟨R.val / 128, by omega⟩ ⟨R.val % 128, by omega⟩ n := by
  rw [partialOf_apply]
  refine Finset.sum_congr rfl fun C _ => ?_
  rw [oAt_eq c x wq wk wv hx hq hk hv, ho]

end Math

/-! ## On the mesh -/

open Cert.KernelIdealProof

/-- Four terms over the slots of a landing buffer are the sum over the devices, in whatever order the slots name them. -/
theorem sum_bk (f : Fin 4 → EReal) (d : Dev nD) : f (bk d 0) + f (bk d 1) + f (bk d 2) + f (bk d 3) = ∑ c, f c := by
  rw [Fin.sum_univ_four]
  revert d
  show ∀ d : Fin 4, _
  intro d
  fin_cases d
  · show f 0 + f 3 + f 2 + f 1 = f 0 + f 1 + f 2 + f 3
    ac_rfl
  · show f 1 + f 0 + f 3 + f 2 = f 0 + f 1 + f 2 + f 3
    ac_rfl
  · show f 2 + f 1 + f 0 + f 3 = f 0 + f 1 + f 2 + f 3
    ac_rfl
  · show f 3 + f 2 + f 1 + f 0 = f 0 + f 1 + f 2 + f 3
    ac_rfl

set_option maxRecDepth 16384 in
/-- The sum of four slots at an index. -/
theorem pay23_apply (a b c d : FVec Ideal S1x64x512 .f32) (r : Fin 64) (n : Fin 512) :
    k0_pay23 (F := Ideal) a b c d (ix3 0 r n) = a (ix3 0 r n) + b (ix3 0 r n) + c (ix3 0 r n) + d (ix3 0 r n) := by
  pointwise [k0_pay23]

variable (m : (ℓ : Loc nD τ sig) → Buf (Elt Ideal) ℓ)
variable {X : FVec Ideal S2x128x512 .f32} {Wq : FVec Ideal SWq .f32} {Wk Wv : FVec Ideal S512x512 .f32} {Wo : FVec Ideal SWo .f32}

/-- The 128 columns that device `c` reads of the key weights, -/
theorem vWk_apply (c : Dev nD) (hW : m ((c.tc : Thread nD τ).loc main_arg2) = Wk) (k : Fin 512) (C : Fin 128) :
    vWk m c (ix2 k C) = Wk (ix2 k ⟨128 * c.val + C.val, by have h : c.val < 4 := c.isLt; omega⟩) := by
  unfold vWk
  rw [hW]
  show Wk ((Rect.unit (s := S512x512) (k0_off1 c) S512x128.size (k0_off1_inb c)).emb (ix2 k C)) = _
  congr 1
  funext a
  apply Fin.ext
  rw [Rect.emb_apply]
  show k0_off1 c a + 1 * (ix2 k C a).val = _
  rw [k0_off1_eq]
  fin_cases a
  · show 0 + 1 * k.val = k.val
    omega
  · show 128 * c.val + 1 * C.val = 128 * c.val + C.val
    omega

/-- and of the value weights. -/
theorem vWv_apply (c : Dev nD) (hW : m ((c.tc : Thread nD τ).loc main_arg3) = Wv) (k : Fin 512) (C : Fin 128) :
    vWv m c (ix2 k C) = Wv (ix2 k ⟨128 * c.val + C.val, by have h : c.val < 4 := c.isLt; omega⟩) := by
  unfold vWv
  rw [hW]
  show Wv ((Rect.unit (s := S512x512) (k0_off1 c) S512x128.size (k0_off1_inb c)).emb (ix2 k C)) = _
  congr 1
  funext a
  apply Fin.ext
  rw [Rect.emb_apply]
  show k0_off1 c a + 1 * (ix2 k C a).val = _
  rw [k0_off1_eq]
  fin_cases a
  · show 0 + 1 * k.val = k.val
    omega
  · show 128 * c.val + 1 * C.val = 128 * c.val + C.val
    omega

/-- What the devices hold of the whole arrays. -/
def Holds (X : FVec Ideal S2x128x512 .f32) (Wq : FVec Ideal SWq .f32) (Wk Wv : FVec Ideal S512x512 .f32) (Wo : FVec Ideal SWo .f32) : Prop :=
  ∀ c : Dev nD, m ((c.tc : Thread nD τ).loc main_arg0) = X
    ∧ m ((c.tc : Thread nD τ).loc main_arg1) = Layout.block S512x512 SWq 1 4 c Wq
    ∧ m ((c.tc : Thread nD τ).loc main_arg2) = Wk
    ∧ m ((c.tc : Thread nD τ).loc main_arg3) = Wv
    ∧ m ((c.tc : Thread nD τ).loc main_arg4) = Layout.block S512x512 SWo 0 4 c Wo

variable {m}

/-- A device's partial product at an index. -/
theorem vP_apply (hm : Holds m X Wq Wk Wv Wo) (c : Dev nD) (R : Fin 256) (n : Fin 512) :
    vP m c (ix2 R n) = part X Wq Wk Wv Wo c ⟨R.val / 128, by omega⟩ ⟨R.val % 128, by omega⟩ n := by
  obtain ⟨h0, h1, h2, h3, h4⟩ := hm c
  refine partialOf_part c _ _ _ _ _ h0 (fun k C => ?_) (vWk_apply m c h2) (vWv_apply m c h3) (fun C n => ?_) R n
  · unfold vWq
    rw [h1]
    show Wq _ = Wq _
    congr 1
    funext a
    fin_cases a <;> rfl
  · unfold vWo
    rw [h4]
    show Wo _ = Wo _
    congr 1
    funext a
    fin_cases a <;> rfl

/-- The kernel's result at an index. -/
theorem vOut_apply (hm : Holds m X Wq Wk Wv Wo) (b : Fin 2) (i : Fin 128) (n : Fin 512) :
    vOut m (ix3 b i n) = whole X Wq Wk Wv Wo b i n := by
  have hd : b.val * 2 + i.val / 64 < 4 := by omega
  have hr : i.val % 64 < 64 := Nat.mod_lt _ (by decide)
  have hs : ∀ s : Fin 4, vSlot m ⟨b.val * 2 + i.val / 64, hd⟩ s (ix3 0 ⟨i.val % 64, hr⟩ n)
      = part X Wq Wk Wv Wo (bk ⟨b.val * 2 + i.val / 64, hd⟩ s) b i n := by
    intro s
    refine (vP_apply hm _ (row ⟨b.val * 2 + i.val / 64, hd⟩ ⟨i.val % 64, hr⟩) n).trans ?_
    congr 1 <;> apply Fin.ext
    · show (64 * (b.val * 2 + i.val / 64) + i.val % 64) / 128 = b.val
      omega
    · show (64 * (b.val * 2 + i.val / 64) + i.val % 64) % 128 = i.val
      omega
  rw [← sum_part, ← sum_bk _ ⟨b.val * 2 + i.val / 64, hd⟩, ← hs, ← hs, ← hs, ← hs]
  exact pay23_apply _ _ _ _ _ _

end Cert.Value
end
-- ==== Proof.Value.Ref.lean ====
/-
# The reference's result as the same function of the whole arrays

The reference runs one step of the online softmax from a running maximum of minus infinity and a running sum and output
of zero. In exact numbers the correction factor multiplies zero, and the maximum with minus infinity changes nothing, so
the step is the plain attention of each row.
-/
module

public import proofs.«01_k».proof.Proof.Value.Whole
public import proofs.«01_k».proof.Proof.Gen.ReferenceIdeal.Run
public import Idealize.ShloMosaic.Lib.Tactic.CleanTypes

@[expose] public section

noncomputable section

namespace Cert.Value

open Idealize.ShloMosaic

/-- A fold of maxima is no less than where it starts. -/
theorem max_fold {n : Nat} (c : EReal) (f : Fin n → EReal) :
    max c (Finset.univ.fold max c f) = Finset.univ.fold max c f :=
  max_eq_right (Finset.le_fold_max _ |>.mpr (Or.inl le_rfl))

/-- One step of the online softmax from zero sums is the attention of the row. -/
theorem att_online (q : Fin 64 → EReal) (k v : Fin 128 → Fin 64 → EReal) (d : Fin 64) (A : EReal) :
    Ideal.div
        (0 * A + ∑ j, v j d * Ideal.exp ((∑ e, q e * k j e) * Ideal.ofBits .f32 0x3E000000#32
          - max (Ideal.ofBits .f32 0xFF800000#32) (Finset.univ.fold max (Ideal.ofBits .f32 0xFF800000#32)
              fun j => (∑ e, q e * k j e) * Ideal.ofBits .f32 0x3E000000#32)))
        (0 * A + ∑ j, Ideal.exp ((∑ e, q e * k j e) * Ideal.ofBits .f32 0x3E000000#32
          - max (Ideal.ofBits .f32 0xFF800000#32) (Finset.univ.fold max (Ideal.ofBits .f32 0xFF800000#32)
              fun j => (∑ e, q e * k j e) * Ideal.ofBits .f32 0x3E000000#32)))
      = att q k v d := by
  rw [max_fold, zero_mul, zero_add, zero_add]
  unfold att
  congr 1
  exact Finset.sum_congr rfl fun j _ => mul_comm _ _

open Cert.ReferenceIdeal Cert.ReferenceIdeal.Gen Cert.ReferenceIdeal.Value in
set_option maxRecDepth 16384 in
set_option maxHeartbeats 2000000 in
/-- The reference's result at an index. -/
theorem ref_apply (m : (ℓ : Loc nD τ sig) → Buf (Elt Ideal) ℓ) (b : Fin 2) (i : Fin 128) (n : Fin 512) :
    res_out0 m 0 (ix3 b i n) = whole
      (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3))
      (m (((0 : Dev nD).tc : Thread nD τ).loc main_arg4)) b i n := by
  unfold res_out0 res_main_v38
  generalize m (((0 : Dev nD).tc : Thread nD τ).loc main_arg0) = X
  generalize m (((0 : Dev nD).tc : Thread nD τ).loc main_arg1) = Wq
  generalize m (((0 : Dev nD).tc : Thread nD τ).loc main_arg2) = Wk
  generalize m (((0 : Dev nD).tc : Thread nD τ).loc main_arg3) = Wv
  generalize m (((0 : Dev nD).tc : Thread nD τ).loc main_arg4) = Wo
  revert X Wq Wk Wv Wo
  intro (X : FVec Ideal S2x128x512 .f32) (Wq : FVec Ideal SWq .f32) (Wk : FVec Ideal S512x512 .f32) (Wv : FVec Ideal S512x512 .f32)
    (Wo : FVec Ideal SWo .f32)
  clean_types
  pointwise []
  refine Finset.sum_congr rfl fun t _ => congrArg (fun z : EReal => z * Wo (ix2 t n)) ?_
  refine (att_online
    (fun e => ∑ k : Fin 512, X (ix3 b i k) * Wq (ix2 k ⟨t.val / 64 * 64 + e.val, by omega⟩))
    (fun j e => ∑ k : Fin 512, X (ix3 b j k) * Wk (ix2 k ⟨t.val / 64 / 4 * 64 + e.val, by omega⟩))
    (fun j e => ∑ k : Fin 512, X (ix3 b j k) * Wv (ix2 k ⟨t.val / 64 / 4 * 64 + e.val, by omega⟩))
    ⟨t.val % 64, Nat.mod_lt _ (by decide)⟩ _).trans ?_
  unfold outAt
  congr 1
  · funext e
    refine Finset.sum_congr rfl fun k _ => ?_
    congr 4
    show t.val / 64 * 64 + e.val = 64 * (t.val / 64) + e.val
    omega
  · funext j e
    refine Finset.sum_congr rfl fun k _ => ?_
    congr 4
    show t.val / 64 / 4 * 64 + e.val = 64 * (t.val / 256) + e.val
    omega
  · funext j e
    refine Finset.sum_congr rfl fun k _ => ?_
    congr 4
    show t.val / 64 / 4 * 64 + e.val = 64 * (t.val / 256) + e.val
    omega

end Cert.Value
end
-- ==== Proof.Value.lean ====
/-
# The value claim

In exact numbers every device ends with the reference's result.
-/
module

public import proofs.«01_k».proof.Defs
public import proofs.«01_k».proof.Proof.KernIdeal.Launch
public import proofs.«01_k».proof.Proof.Value.Ref

@[expose] public section

noncomputable section

namespace Cert.Claims

open Idealize.ShloMosaic Idealize.SL.Sem Cert.Value

/-- Where each device holds its blocks of the whole arrays, the kernel's result is the reference's. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : Holds m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))) :
    (Cert.KernelIdealProof.vOut m : FVec Ideal Cert.KernelIdeal.S2x128x512 .f32) = Cert.ReferenceIdeal.Value.res_out0 m' 0 := by
  funext j
  obtain ⟨b, i, n, rfl⟩ : ∃ (b : Fin 2) (i : Fin 128) (n : Fin 512), j = ix3 b i n := ⟨j 0, j 1, j 2, eq_ix3 j⟩
  exact (vOut_apply hm b i n).trans (ref_apply m' b i n).symm

/-- The kernel in exact numbers computes the reference's result on every device. -/
theorem value : algebraic_KernelIdeal_ReferenceIdeal (hKernelIdeal := Cert.KernelIdeal.Gen.facts)
    (hReferenceIdeal := Cert.ReferenceIdeal.Gen.facts) := fun m g m' g' _ hm =>
  ⟨Cert.ReferenceIdeal.Value.res_out0 m' 0,
    (θ_run Cert.KernelIdeal.defs _ _).mono (fun r h c => by
        obtain ⟨⟨h0, h1, h2, h3, h4, h5⟩, -⟩ := h.1 c
        exact ⟨h5.trans (out_eq m m' hm), h0, h1, h2, h3, h4⟩)
      (Cert.KernelIdealProof.run_main (F := Ideal) m g),
    (θ_run Cert.ReferenceIdeal.defs _ _).mono (fun r h => h 0) (Cert.ReferenceIdeal.Value.run (F := Ideal) m' g')⟩

end Cert.Claims

end
-- ==== Proof.lean ====
/-
# The proof of `Cert.Claim`

The five claims, each from its own module, with the witnesses of the programs' stated facts first.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Claims.frame_kernel, Cert.Claims.frame_ideal, Cert.Claims.frame_reference, trivial, Cert.Claims.value⟩

end Cert.Proof

end
